-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![3072, 768]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![96, 768]⟩ ⟨2, ![768, 768]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S96x768 : Shape := ⟨2, ![96, 768]⟩
abbrev S8x96x768 : Shape := ⟨3, ![8, 96, 768]⟩
abbrev S8 : Shape := ⟨1, ![8]⟩
abbrev S_ : Shape := ⟨0, ![]⟩
abbrev S96x384 : Shape := ⟨2, ![96, 384]⟩
abbrev S1x96x768 : Shape := ⟨3, ![1, 96, 768]⟩
abbrev S1 : Shape := ⟨1, ![1]⟩

abbrev nBuf : Space → Nat
  | .hbm => 3
  | .vmem => 6
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S96x768, .f32⟩
  | .local _ .vmem, ⟨0, _⟩ => ⟨S768x384, .f32⟩
  | .local _ .vmem, ⟨1, _⟩ => ⟨S384x768, .f32⟩
  | .local _ .vmem, ⟨2, _⟩ => ⟨S96x768, .f32⟩
  | .local _ .vmem, ⟨3, _⟩ => ⟨S384x768, .bf16⟩
  | .local _ .vmem, ⟨4, _⟩ => ⟨S8x96x768, .bf16⟩
  | .local _ .vmem, ⟨5, _⟩ => ⟨S8x96x768, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  (ofTc nBuf bufTy 1 19 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_31 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v38 : BitVec 32 := Scalar.addi v2 c1_i32_31
  let c8_i32_32 : BitVec 32 := 8#32
  let v39 : BitVec 32 := Scalar.remsi v38 c8_i32_32
  let c96_i32 : BitVec 32 := 96#32
  let v40 : BitVec 32 := Scalar.muli v39 c96_i32
  let v41 : Index := Scalar.indexCast v40
  let c0_33 : Index := 0#32
  ![v41.toNat, 0]
def k0_dev8 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_31 : BitVec 32 := 1#32
  let v38 : BitVec 32 := Scalar.addi v2 c1_i32_31
  let c8_i32_32 : BitVec 32 := 8#32
  let v39 : BitVec 32 := Scalar.remsi v38 c8_i32_32
  let c1_i32_43 : BitVec 32 := 1#32
  let v51 : BitVec 32 := Scalar.muli v39 c1_i32_43
  let v52 : BitVec 32 := Scalar.addi c0_i32_44 v51
  v52.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_49 : BitVec 32 := 2#32
  let v61 : BitVec 32 := Scalar.addi v2 c2_i32_49
  let c8_i32_50 : BitVec 32 := 8#32
  let v62 : BitVec 32 := Scalar.remsi v61 c8_i32_50
  let c1_i32_62 : BitVec 32 := 1#32
  let v74 : BitVec 32 := Scalar.muli v62 c1_i32_62
  let v75 : BitVec 32 := Scalar.addi c0_i32_63 v74
  v75.toNat
def k0_dev10 (d0 : Dev nD) : Nat :=
  let c0_i32_82 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_68 : BitVec 32 := 3#32
  let v84 : BitVec 32 := Scalar.addi v2 c3_i32_68
  let c8_i32_69 : BitVec 32 := 8#32
  let v85 : BitVec 32 := Scalar.remsi v84 c8_i32_69
  let c1_i32_81 : BitVec 32 := 1#32
  let v97 : BitVec 32 := Scalar.muli v85 c1_i32_81
  let v98 : BitVec 32 := Scalar.addi c0_i32_82 v97
  v98.toNat
def k0_dev11 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_87 : BitVec 32 := 4#32
  let v107 : BitVec 32 := Scalar.addi v2 c4_i32_87
  let c8_i32_88 : BitVec 32 := 8#32
  let v108 : BitVec 32 := Scalar.remsi v107 c8_i32_88
  let c1_i32_100 : BitVec 32 := 1#32
  let v120 : BitVec 32 := Scalar.muli v108 c1_i32_100
  let v121 : BitVec 32 := Scalar.addi c0_i32_101 v120
  v121.toNat
def k0_dev12 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_106 : BitVec 32 := 5#32
  let v130 : BitVec 32 := Scalar.addi v2 c5_i32_106
  let c8_i32_107 : BitVec 32 := 8#32
  let v131 : BitVec 32 := Scalar.remsi v130 c8_i32_107
  let c1_i32_119 : BitVec 32 := 1#32
  let v143 : BitVec 32 := Scalar.muli v131 c1_i32_119
  let v144 : BitVec 32 := Scalar.addi c0_i32_120 v143
  v144.toNat
def k0_dev13 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_125 : BitVec 32 := 6#32
  let v153 : BitVec 32 := Scalar.addi v2 c6_i32_125
  let c8_i32_126 : BitVec 32 := 8#32
  let v154 : BitVec 32 := Scalar.remsi v153 c8_i32_126
  let c1_i32_138 : BitVec 32 := 1#32
  let v166 : BitVec 32 := Scalar.muli v154 c1_i32_138
  let v167 : BitVec 32 := Scalar.addi c0_i32_139 v166
  v167.toNat
def k0_dev14 (d0 : Dev nD) : Nat :=
  let c0_i32_158 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_144 : BitVec 32 := 7#32
  let v176 : BitVec 32 := Scalar.addi v2 c7_i32_144
  let c8_i32_145 : BitVec 32 := 8#32
  let v177 : BitVec 32 := Scalar.remsi v176 c8_i32_145
  let c1_i32_157 : BitVec 32 := 1#32
  let v189 : BitVec 32 := Scalar.muli v177 c1_i32_157
  let v190 : BitVec 32 := Scalar.addi c0_i32_158 v189
  v190.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c96_i32_163 : BitVec 32 := 96#32
  let v199 : BitVec 32 := Scalar.muli v2 c96_i32_163
  let v200 : Index := Scalar.indexCast v199
  let c0_164 : Index := 0#32
  ![v200.toNat, 0]
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x3072 : Shape := ⟨2, ![768, 3072]⟩
abbrev S3072x768 : Shape := ⟨2, ![3072, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S768x3072, .f32⟩
  | .hbm, ⟨1, _⟩ => ⟨S3072x768, .f32⟩
  | .hbm, ⟨2, _⟩ => ⟨S768x768, .f32⟩
  | _, _ => ⟨S768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ideal.Protocol.lean ====
/-
  The exchange of the reduce-scatter kernel as a protocol over semaphore cells.

  Eight devices. With offsets `k = 1 … 7` counted modulo eight, device `c` tells the barrier of every device `c + k` that it
  has entered the kernel, waits for seven such notices of its own, computes for each `k` the block of rows that belongs to
  device `c + k`, and sends it into slot `k` of that device's receive buffer. So slot `k` of device `c` is filled by device
  `c - k`, and by no other: the notice of `c` to `c - k` is therefore what lends that slot to its one writer.

  This module names the cells, the slots of the two exchange buffers, what each cell's credit stands for, and what every
  device owes at launch.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state -/

/-- The exchange's own record of rounds over the machine's cells; a barrier cell names its duties by offsets. -/
abbrev UX : Type := URounds (GSem nD τ sig) (Fin 8)
/-- The pipeline's record and the exchange's, side by side. -/
abbrev UU : Type := UR sig nD τ × UX

local notation "𝕄" => MT nD τ sig Unit (Elt F) ℕ UU ℕ

/-- Where the pipeline's record sits in the machine's algebra, -/
abbrev EP : Emb (UR sig nD τ) (MT nD τ sig Unit (Elt F) ℕ UU ℕ) := embL
/-- and where the exchange's does. -/
abbrev EX : Emb UX (MT nD τ sig Unit (Elt F) ℕ UU ℕ) := embR

variable (m : (ℓ : Loc nD τ sig) → Buf (Elt F) ℓ) (ρ : Dev nD → PrngReg)

/-- The machine at launch: any memory, all counters at zero, any generator registers. -/
def s₀ : MemSt nD τ sig (Elt F) := ⟨m, fun _ => 0, ρ⟩

/-! ## Who sends to whom -/

/-- The device `k` places after `c`. -/
def fwd (c : Dev nD) (k : Fin 8) : Dev nD := c + k
/-- The device `k` places before `c`. -/
def bwd (c : Dev nD) (k : Fin 8) : Dev nD := c - k

theorem bwd_fwd (c : Dev nD) (k : Fin 8) : bwd (fwd c k) k = c := by revert c k; decide
theorem fwd_bwd (c : Dev nD) (k : Fin 8) : fwd (bwd c k) k = c := by revert c k; decide
/-- Going `-k` places on is going `k` places back. -/
theorem fwd_neg (c : Dev nD) (k : Fin 8) : fwd c (-k) = bwd c k := by revert c k; decide
theorem fwd_fwd_neg (c : Dev nD) (k : Fin 8) : fwd (fwd c k) (-k) = c := by revert c k; decide
theorem fwd_val (c : Dev nD) (k : Fin 8) : (fwd c k).val = (c.val + k.val) % 8 := by revert c k; decide

/-- Shifting all devices by `k` permutes them. -/
def shift (k : Fin 8) : Dev nD ≃ Dev nD := ⟨fun c => fwd c k, fun c => bwd c k, fun c => bwd_fwd c k, fun c => fwd_bwd c k⟩

/-- The seven offsets, in the program's order. -/
abbrev offs : List (Fin 8) := [1, 2, 3, 4, 5, 6, 7]

/-! ## The buffers -/

/-- The staged operands and result, and the three scratch buffers, whole. -/
abbrev aM : Memref sig .tc .vmem S768x384 .f32 := Memref.whole cc0_stg0_0
abbrev bM : Memref sig .tc .vmem S384x768 .f32 := Memref.whole cc0_stg1_0
abbrev oM : Memref sig .tc .vmem S96x768 .f32 := Memref.whole cc0_stg2_0
abbrev hM : Memref sig .tc .vmem S384x768 .bf16 := Memref.whole cc0_scratch0
abbrev sM : Memref sig .tc .vmem S8x96x768 .bf16 := Memref.whole cc0_scratch1
abbrev rM : Memref sig .tc .vmem S8x96x768 .bf16 := Memref.whole cc0_scratch2

theorem slot_inb (k : Fin 8) : ∀ a, (![k.val, 0, 0] : Fin 3 → ℕ) a + S1x96x768.size a ≤ S8x96x768.size a := by
  revert k; decide
/-- The rectangle of slot `k` of an exchange buffer. -/
abbrev slotRect (k : Fin 8) : Rect S8x96x768 := Rect.unit (s := S8x96x768) ![k.val, 0, 0] S1x96x768.size (slot_inb k)
/-- Slot `k` of the send buffer as the copies name it, -/
abbrev sSlot (k : Fin 8) : Memref sig .tc .vmem S96x768 .bf16 := (sM.slice (slotRect k) (fun _ => rfl)).squeeze S96x768 squeezes_S1x96x768_S96x768
/-- and slot `k` of the receive buffer. -/
abbrev rSlot (k : Fin 8) : Memref sig .tc .vmem S96x768 .bf16 := (rM.slice (slotRect k) (fun _ => rfl)).squeeze S96x768 squeezes_S1x96x768_S96x768

/-! ## The cells -/

theorem sem_inb (k : Fin 8) : ∀ a, (![k.val] : Fin 1 → ℕ) a + S1.size a ≤ S8.size a := by revert k; decide

/-- The barrier semaphore; the send semaphore and the receive semaphore of slot `k`. -/
abbrev barS : Sem sig := (SemArray.scalar (sig.barrier 0 rfl) : Sems sig S_).sem
abbrev sendS (k : Fin 8) : DmaSem sig := ((cc0_scratch3.slice (Rect.unit (s := S8) ![k.val] S1.size (sem_inb k))).squeeze S_ squeezes_S1_S_).sem
abbrev recvS (k : Fin 8) : DmaSem sig := ((cc0_scratch4.slice (Rect.unit (s := S8) ![k.val] S1.size (sem_inb k))).squeeze S_ squeezes_S1_S_).sem

/-- The names of one device's cells: the barrier; or a slot's send (`false`) or receive (`true`) cell. -/
abbrev Cell : Type := Option (Bool × Fin 8)
/-- The semaphore a scoped cell counts on, -/
abbrev osem : Bool × Fin 8 → SemLoc sig
  | (false, k) => .dma (sendS k)
  | (true, k) => .dma (recvS k)
/-- and any cell. -/
abbrev csem : Cell → SemLoc sig
  | none => .reg barS
  | some x => osem x

abbrev kcell (x : Dev nD × Cell) : GSem nD τ sig := ((x.1 : Thread nD τ), csem x.2)
abbrev barCell (c : Dev nD) : GSem nD τ sig := ((c : Thread nD τ), .reg barS)
abbrev sendCell (c : Dev nD) (k : Fin 8) : GSem nD τ sig := ((c : Thread nD τ), .dma (sendS k))
abbrev recvCell (c : Dev nD) (k : Fin 8) : GSem nD τ sig := ((c : Thread nD τ), .dma (recvS k))

theorem sendS_val (k : Fin 8) : (sendS k).val = 3 + k.val := by revert k; decide
theorem recvS_val (k : Fin 8) : (recvS k).val = 11 + k.val := by revert k; decide

/-- Which cell a semaphore counts for, by its number: 3 to 10 are the send cells, 11 to 18 the receive cells. -/
def dec : SemLoc sig → Option Cell
  | .reg s => if s = barS then some none else none
  | .dma q => if h : 3 ≤ q.val ∧ q.val < 11 then some (some (false, ⟨q.val - 3, by omega⟩))
      else if h : 11 ≤ q.val ∧ q.val < 19 then some (some (true, ⟨q.val - 11, by omega⟩)) else none

theorem dec_bar : dec (.reg barS) = some none := by unfold dec; exact if_pos rfl
theorem dec_send (k : Fin 8) : dec (.dma (sendS k)) = some (some (false, k)) := by
  have hv := sendS_val k
  have hk := k.isLt
  unfold dec; dsimp only
  rw [dif_pos (by omega)]
  exact congrArg some (congrArg some (Prod.ext rfl (Fin.ext (by dsimp only; omega))))
theorem dec_recv (k : Fin 8) : dec (.dma (recvS k)) = some (some (true, k)) := by
  have hv := recvS_val k
  have hk := k.isLt
  unfold dec; dsimp only
  rw [dif_neg (by omega), dif_pos (by omega)]
  exact congrArg some (congrArg some (Prod.ext rfl (Fin.ext (by dsimp only; omega))))
theorem dec_csem (x : Cell) : dec (csem x) = some x := by
  rcases x with _ | ⟨_ | _, k⟩
  · exact dec_bar
  · exact dec_send k
  · exact dec_recv k
theorem csem_inj : Function.Injective csem := fun x y h => Option.some.inj (by rw [← dec_csem x, ← dec_csem y, h])
theorem kcell_inj : Function.Injective kcell := by
  rintro ⟨c, x⟩ ⟨d, y⟩ h
  have h1 : c = d := congrArg (fun g : GSem nD τ sig => g.1.1) h
  have h2 : x = y := csem_inj (congrArg Prod.snd h)
  rw [h1, h2]

/-- The credit of one block: every slot's copy moves the same number of bytes. -/
abbrev N : ℕ := (rSlot 0).view.dmaCredit
theorem N_pos : 0 < N := View.dmaCredit_pos _ (by decide)

/-! ## What the buffers hold -/

/-- The block of `a` staged on device `c`, -/
def aBlk (c : Dev nD) : (cc0_stg0_0 : Ref sig .tc).ty.Contents (Elt F) := iblk m c (0 : Fin 3) t0_0
/-- the block of `b`, -/
def bBlk (c : Dev nD) : (cc0_stg1_0 : Ref sig .tc).ty.Contents (Elt F) := iblk m c (1 : Fin 3) t0_0
/-- and `b` in the exchange's type. -/
def hBlk (c : Dev nD) : (cc0_scratch0 : Ref sig .tc).ty.Contents (Elt F) := k0_pay1 (bBlk m c)

theorem rows_inb (d : Dev nD) : ∀ a, (![96 * d.val, 0] : Fin 2 → ℕ) a + S96x384.size a ≤ S768x384.size a := by revert d; decide
/-- The rows of `a` on device `c` that belong to device `d`'s block of the result. -/
def rows (c d : Dev nD) : Vec F S96x384 .f32 :=
  aM.view.readAt (Elt F) (Rect.unit (s := S768x384) ![96 * d.val, 0] S96x384.size (rows_inb d)).toLoadRect (aBlk m c)
/-- What device `c` adds to device `d`'s block of the result, as it travels. -/
def part (c d : Dev nD) : FVec F S1x96x768 .bf16 := k0_pay2 (rows m c d) (hBlk m c)
/-- What device `c` adds to its own. -/
def own (c : Dev nD) : FVec F S96x768 .f32 := k0_pay10 (rows m c c) (hBlk m c)
/-- The running sum with one more received block. -/
def addTo (x : FVec F S96x768 .f32) (y : Vec F S1x96x768 .bf16) : FVec F S96x768 .f32 := k0_pay11 x y
/-- Device `c`'s result after the blocks of the listed offsets have been added in turn. -/
def sumOf (c : Dev nD) (ks : List (Fin 8)) : FVec F S96x768 .f32 :=
  ks.foldl (fun x k => addTo x (part m (bwd c k) c)) (own m c)

/-! ## Slots held -/

/-- Slot `k` of device `c`'s receive buffer, reading `X`, -/
def rHas (c : Dev nD) (k : Fin 8) (X : Vec F S1x96x768 .bf16) : sProp 𝕄 :=
  iprop(∃ f, ⌜rM.view.readAt (Elt F) (slotRect k).toLoadRect f = X⌝ ∗ ((rSlot k).view.loc (c : Thread nD τ) ↦[(rSlot k).view.set]{fullShare} f))
/-- or at any contents. -/
def rAny (c : Dev nD) (k : Fin 8) : sProp 𝕄 :=
  iprop(∃ f, ((rSlot k).view.loc (c : Thread nD τ) ↦[(rSlot k).view.set]{fullShare} f))
/-- Slot `k` of its send buffer, reading `X`, -/
def sHas (c : Dev nD) (k : Fin 8) (X : Vec F S1x96x768 .bf16) : sProp 𝕄 :=
  iprop(∃ f, ⌜sM.view.readAt (Elt F) (slotRect k).toLoadRect f = X⌝ ∗ ((sSlot k).view.loc (c : Thread nD τ) ↦[(sSlot k).view.set]{fullShare} f))
/-- or at any contents. -/
def sAny (c : Dev nD) (k : Fin 8) : sProp 𝕄 :=
  iprop(∃ f, ((sSlot k).view.loc (c : Thread nD τ) ↦[(sSlot k).view.set]{fullShare} f))

omit [FloatOps F] in
instance rHas_storable (c k X) : BI.Storable (upEmb : UEmb _ 𝕄) (rHas (F := F) c k X) := by unfold rHas; infer_instance
omit [FloatOps F] in
instance rAny_storable (c k) : BI.Storable (upEmb : UEmb _ 𝕄) (rAny (F := F) c k) := by unfold rAny; infer_instance
omit [FloatOps F] in
instance sAny_storable (c k) : BI.Storable (upEmb : UEmb _ 𝕄) (sAny (F := F) c k) := by unfold sAny; infer_instance

omit [FloatOps F] in
/-- A slot at known contents is a slot. -/
theorem rHas_any (c : Dev nD) (k : Fin 8) (X : Vec F S1x96x768 .bf16) : rHas c k X ⊢ rAny c k := by
  unfold rHas rAny; iintro ⟨%f, -, H⟩; iexists f; iexact H

omit [FloatOps F] in
/-- Squeezing a slot's unit axis away loses nothing of what it reads. -/
theorem squeeze_inj (X Y : Vec F S1x96x768 .bf16) (h h' : S1x96x768.ShapeCasts S96x768)
    (e : shapeCast S96x768 X h = shapeCast S96x768 Y h') : X = Y := by
  have hb : S96x768.ShapeCasts S1x96x768 := Eq.symm h
  rw [← shapeCast_shapeCast X h hb, ← shapeCast_shapeCast Y h' hb, e]

/-! ## The slots of a buffer -/

/-- Two slots share no element, -/
theorem slot_disjoint (k k' : Fin 8) (h : k ≠ k') : Disjoint (slotRect k).set (slotRect k').set :=
  Ring.lead_disjoint (s := S8x96x768) (NB := 8) 0 1 (fun k => ![k.val, 0, 0]) S1x96x768.size slot_inb (by decide) rfl k k' h

/-- and the eight of them are the buffer. -/
theorem slot_cover : Finset.univ.biUnion (fun k : Fin 8 => (slotRect k).set) = (Finset.univ : Finset S8x96x768.Idx) :=
  Ring.lead_cover (s := S8x96x768) (NB := 8) 0 1 (fun k => ![k.val, 0, 0]) S1x96x768.size slot_inb (by decide) (by decide) rfl (by decide) rfl

/-! ## The schedule -/

/-- What a credit of a cell stands for, by the cell's name: a notice `k` at `c`'s barrier lends `c` slot `k` of the device
    `k` places on; a landing in slot `k` gives `c` that slot with its writer's block; a copy's read-out gives the source back. -/
def pay (c : Dev nD) (d : Fin 8) : Cell → sProp 𝕄
  | none => rAny (fwd c d) d
  | some (false, k) => sAny c k
  | some (true, k) => rHas c k (part m (bwd c k) c)

instance pay_storable (c : Dev nD) (d : Fin 8) (x : Cell) : BI.Storable (upEmb : UEmb _ 𝕄) (pay m c d x) := by
  rcases x with _ | ⟨_ | _, k⟩ <;> unfold pay <;> infer_instance

/-- A cell's duties: seven notices at a barrier, one transfer at a used slot's cell, none at slot 0's. -/
def dutyOf : Cell → Finset (Fin 8)
  | none => Finset.univ.erase 0
  | some (_, k) => if k = 0 then ∅ else {0}

/-- The units of one duty: a notice is one, a transfer the block's credit. -/
def amtOf : Cell → ℕ
  | none => 1
  | some _ => N

/-- One round on every cell, with the duties, amounts and payloads above; nothing on any other semaphore. -/
def sched : Rounds.Schedule (GSem nD τ sig) (Fin 8) 𝕄 where
  duties g r := if r = 0 ∧ g.1.2 = .tc then ((dec g.2).map dutyOf).getD ∅ else ∅
  unitless _ := False
  amount g _ _ := ((dec g.2).map amtOf).getD 1
  payload g _ d := ((dec g.2).map (pay m g.1.1 d)).getD iprop(emp)
  amount_pos g _ _ _ := by
    rcases dec g.2 with _ | _ | x
    · exact Nat.one_pos
    · exact Nat.one_pos
    · exact N_pos

instance sched_storable (g : GSem nD τ sig) (r : ℕ) (d : Fin 8) : BI.Storable (upEmb : UEmb _ 𝕄) ((sched m).payload g r d) := by
  show BI.Storable upEmb (((dec g.2).map (pay m g.1.1 d)).getD iprop(emp))
  rcases dec g.2 with _ | x
  · exact (inferInstance : BI.Storable upEmb (iprop(emp) : sProp 𝕄))
  · exact pay_storable m g.1.1 d x

theorem sched_duties (c : Dev nD) (x : Cell) : (sched m).duties (kcell (c, x)) 0 = dutyOf x := by
  show (if (0 : ℕ) = 0 ∧ (kcell (c, x)).1.2 = .tc then ((dec (csem x)).map dutyOf).getD ∅ else ∅) = dutyOf x
  rw [if_pos ⟨rfl, rfl⟩, dec_csem]; rfl
theorem sched_later (g : GSem nD τ sig) (r : ℕ) (h : 1 ≤ r) : (sched m).duties g r = ∅ := by
  show (if r = 0 ∧ _ then _ else ∅) = ∅
  exact if_neg (fun h' => by omega)
theorem sched_amount (c : Dev nD) (x : Cell) (d : Fin 8) : (sched m).amount (kcell (c, x)) 0 d = amtOf x := by
  show ((dec (csem x)).map amtOf).getD 1 = _
  rw [dec_csem]; rfl
theorem sched_payload (c : Dev nD) (x : Cell) (d : Fin 8) : (sched m).payload (kcell (c, x)) 0 d = pay m c d x := by
  show ((dec (csem x)).map (pay m c d)).getD iprop(emp) = _
  rw [dec_csem]; rfl

theorem sched_expect (c : Dev nD) (x : Cell) : (sched m).expect (kcell (c, x)) 0 = (dutyOf x).card * amtOf x := by
  unfold Schedule.expect Schedule.amountOf
  rw [sched_duties, Finset.sum_congr rfl fun d _ => sched_amount m c x d, Finset.sum_const, smul_eq_mul]

/-! ## What is owed -/

/-- Landings a device still owes, for the listed offsets, the first listed outermost; -/
def owesR (c : Dev nD) : List (Fin 8) → CellTallies nD τ sig Unit
  | [] => 0
  | k :: ks => owesR c ks + tallyAt (recvCell (fwd c k) k) () N
/-- and notices on top of `R`. -/
def owesB (c : Dev nD) (R : CellTallies nD τ sig Unit) : List (Fin 8) → CellTallies nD τ sig Unit
  | [] => R
  | k :: ks => owesB c R ks + tallyAt (barCell (fwd c k)) () 1
/-- At launch: all seven of each. -/
def O₀ (c : Dev nD) : CellTallies nD τ sig Unit := owesB c (owesR c offs) offs

/-- Levels: barriers below landings, everything else lowest. -/
def L (g : GSem nD τ sig) : Finset Unit := if g.1.2 = .tc then {()} else ∅
def lv (g : GSem nD τ sig) (_ : Unit) : ℕ :=
  match dec g.2 with
  | some none => 1
  | some (some (true, _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [dec_bar]
theorem lv_recv (c : Dev nD) (k : Fin 8) : lv (recvCell c k) () = 2 := by unfold lv; rw [dec_recv]

theorem owesR_pos {c : Dev nD} {g : GSem nD τ sig} {u : Unit} : ∀ {ks : List (Fin 8)}, 0 < owesR c ks g u → ∃ d k, g = recvCell d k
  | [], h => absurd h (Nat.lt_irrefl 0)
  | k :: ks, h => by
    unfold owesR at h
    rw [Pi.add_apply, Finsupp.add_apply, tallyAt_apply] at h
    by_cases hg : g = recvCell (fwd c k) k ∧ u = ()
    · exact ⟨_, _, hg.1⟩
    · rw [if_neg hg, Nat.add_zero] at h; exact owesR_pos h

theorem owesB_pos {c : Dev nD} {R : CellTallies nD τ sig Unit} {g : GSem nD τ sig} {u : Unit} :
    ∀ {ks : List (Fin 8)}, 0 < owesB c R ks g u → 0 < R g u ∨ ∃ d, g = barCell d
  | [], h => .inl h
  | k :: ks, h => by
    unfold owesB at h
    rw [Pi.add_apply, Finsupp.add_apply, tallyAt_apply] at h
    by_cases hg : g = barCell (fwd c k) ∧ u = ()
    · exact .inr ⟨_, hg.1⟩
    · rw [if_neg hg, Nat.add_zero] at h; exact owesB_pos h

omit [FloatOps F] in
/-- A wait on a semaphore of the lowest level is below everything owed at launch, and below nothing owed. -/
theorem mayWait_low (c : Dev nD) (q : DmaSem sig) (hq : lv ((c : Thread nD τ), .dma q) () = 0) (O : CellTallies nD τ sig Unit) (hO : O = O₀ c ∨ O = 0) :
    (levAts L lv : sProp 𝕄) ⊢ MayWait (c : Thread nD τ) (.dma q) () O := by
  rcases hO with rfl | rfl
  · have hpos : ∀ g u, 0 < O₀ c g u → (∃ d k, g = recvCell d k) ∨ ∃ d, g = barCell d := fun g u hg => by
      rcases owesB_pos hg with h | h
      · exact .inl (owesR_pos h)
      · exact .inr h
    refine MayOwe.of_cut (L := L) (lev := lv) 0 (fun p hp => by rw [Finset.mem_singleton.mp hp, L_tc]; exact Finset.mem_singleton_self _)
      (fun g u hg => by rcases hpos g u hg with ⟨d, k, rfl⟩ | ⟨d, rfl⟩ <;> exact Finset.mem_singleton_self _)
      (fun p hp => by rw [Finset.mem_singleton.mp hp]; exact le_of_eq hq)
      (fun g u hg => by
        rcases hpos g u hg with ⟨d, k, rfl⟩ | ⟨d, rfl⟩
        · rw [lv_recv]; decide
        · rw [lv_bar]; decide)
  · rw [MayWait_zero]; iintro -; iempintro

omit [FloatOps F] in
/-- At its barrier a device owes landings only, and those are above. -/
theorem mayWait_bar (c : Dev nD) (ks : List (Fin 8)) :
    (levAts L lv : sProp 𝕄) ⊢ MayWait (c : Thread nD τ) (.reg barS) () (owesR c ks) :=
  MayOwe.of_cut (L := L) (lev := lv) 1 (fun p hp => by rw [Finset.mem_singleton.mp hp, L_tc]; exact Finset.mem_singleton_self _)
    (fun g u hg => by obtain ⟨d, k, rfl⟩ := owesR_pos hg; exact Finset.mem_singleton_self _)
    (fun p hp => by rw [Finset.mem_singleton.mp hp]; exact le_of_eq (lv_bar c))
    (fun g u hg => by obtain ⟨d, k, rfl⟩ := owesR_pos hg; rw [lv_recv]; decide)

end Cert.KernelIdeal.Scatter

end
-- ==== Proof.Ideal.Steps.lean ====
/-
  One rule for each kind of operation the reduce-scatter body performs, stated once for every offset: a notice, the barrier
  wait, a stored block, a copy, the wait for a landing, the wait for a copy's read-out, and the plain loads and stores.

  What is still to come is held as a chain over the offsets not yet reached; a rule takes the head of its chain.
-/
module

public import proofs.«01_k».proof.Proof.Ideal.Protocol

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel has no loops to bound. -/
abbrev 𝒱₀ : Variants := Variants.none

/-! ## Chains -/

/-- `P` at each listed offset, the first at the head. -/
def chain (P : Fin 8 → sProp 𝕄) : List (Fin 8) → sProp 𝕄
  | [] => iprop(emp)
  | k :: ks => iprop(P k ∗ chain P ks)

omit [FloatOps F] in
theorem chain_cons (P : Fin 8 → sProp 𝕄) (k : Fin 8) (ks : List (Fin 8)) : chain P (k :: ks) = iprop(P k ∗ chain P ks) := rfl

omit [FloatOps F] in
/-- A separating product over a finite set is the chain over any list of its members. -/
theorem chain_of (P : Fin 8 → sProp 𝕄) : ∀ (ks : List (Fin 8)) (s : Finset (Fin 8)) (_ : ks.Nodup) (_ : s = ks.toFinset), bigSep s P = chain P ks
  | [], s, _, hs => by rw [hs]; exact bigSep_empty
  | k :: ks, s, hn, hs => by
    rw [hs, List.toFinset_cons, bigSep_insert (fun h => (List.nodup_cons.mp hn).1 (List.mem_toFinset.mp h)),
      chain_of P ks _ (List.nodup_cons.mp hn).2 rfl]
    rfl

/-! ## The shared records -/

/-- Every cell's invariant, and that round 0 of every cell has begun. -/
def records (K : Dev nD × Cell → ℕ) : sProp 𝕄 :=
  bigSep Finset.univ fun x : Dev nD × Cell => iprop(cellInv EX (sched m) (K x) (kcell x) ∗ reached EX (kcell x) 0)

instance records_persistent (K : Dev nD × Cell → ℕ) : BI.Persistent (records m K) := by unfold records; infer_instance

theorem records_at (K : Dev nD × Cell → ℕ) (x : Dev nD × Cell) :
    records m K ⊢ iprop(cellInv EX (sched m) (K x) (kcell x) ∗ reached EX (kcell x) 0) :=
  bigSep_elim (Finset.mem_univ x)

/-- What every step needs of the device: the shared records, the levels, and what it owes. -/
def core (K : Dev nD × Cell → ℕ) (c : Dev nD) (O : CellTallies nD τ sig Unit) : sProp 𝕄 :=
  iprop(records m K ∗ levAts L lv ∗ ∃ W, owes (c : Thread nD τ) O W)

/-- For the notice of offset `k`: the right to give it, and the slot it lends. -/
def toSignal (c : Dev nD) (k : Fin 8) : sProp 𝕄 := iprop(dutyTok EX (barCell (fwd c k)) 0 (-k) ∗ rAny c (-k))
/-- For the barrier wait: the credit of seven notices. -/
def toMeet (c : Dev nD) : sProp 𝕄 := iprop(cred (tallyAt (barCell c) () 7) ∗ atPos EX (barCell c) 0 ∅ 0)
/-- The slot of the device `k` places on that this device writes, lent to it. -/
def lent (c : Dev nD) (k : Fin 8) : sProp 𝕄 := rAny (fwd c k) k
/-- For the copy of offset `k`: the rights to credit both its cells, and to await the first. -/
def toCopy (c : Dev nD) (k : Fin 8) : sProp 𝕄 :=
  iprop(dutyTok EX (sendCell c k) 0 0 ∗ dutyTok EX (recvCell (fwd c k) k) 0 0 ∗ atPos EX (sendCell c k) 0 ∅ 0)
/-- For the wait on that copy's read-out. -/
def flying (c : Dev nD) (k : Fin 8) : sProp 𝕄 := iprop(cred (tallyAt (sendCell c k) () N) ∗ atPos EX (sendCell c k) 0 ∅ 0)
/-- For the wait on the landing in slot `k`. -/
def toLand (c : Dev nD) (k : Fin 8) : sProp 𝕄 := iprop(cred (tallyAt (recvCell c k) () N) ∗ atPos EX (recvCell c k) 0 ∅ 0)

variable (K : Dev nD × Cell → ℕ) (c : Dev nD) {α : Type} {Q : α → sProp (MT nD τ sig Unit (Elt F) ℕ UU ℕ)}

/-! ## Notices -/

/-- The notice of offset `k` goes to the device `k` places on, lending it this device's slot `-k`. -/
theorem wp_notice {n : Dev nD} {k : Fin 8} (hn : n = fwd c k) (hk : k ≠ 0) (R : CellTallies nD τ sig Unit) (ks : List (Fin 8))
    {p : PUnit → Prog (TpuEff nD τ sig (Elt F) Λ₀ .tc) α} :
    iprop(core m K c (owesB c R (k :: ks)) ∗ chain (toSignal c) (k :: ks))
      ⊢ iprop(((core m K c (owesB c R ks) ∗ chain (toSignal c) ks) -∗ wp frame (wpE (defs₀ (F := F)) 𝒱₀ (c : Thread nD τ) none) Set.univ (p ⟨⟩) Q)
          -∗ wp frame (wpE (defs₀ (F := F)) 𝒱₀ (c : Thread nD τ) none) Set.univ (.op (.semSignal (n : Thread nD τ) barS 1) p) Q) := by
  subst hn
  rw [chain_cons, toSignal]; unfold core
  iintro ⟨⟨#HI, #Hl, ⟨%W, HO⟩⟩, ⟨Ht, Hs⟩, Hc⟩ Hk
  ihave #Hr := (records_at m K (fwd c k, none)) $$ HI
  icases Hr with ⟨#Hinv, #Hre⟩
  iapply (Rounds.wp_signal 𝒱₀ EX (sched m) (c : Thread nD τ) none (dst := (fwd c k : Thread nD τ)) (κ := K (fwd c k, none)) (d := -k)
      (by rw [sched_duties m (fwd c k) none]; exact Finset.mem_erase.mpr ⟨neg_ne_zero.mpr hk, Finset.mem_univ _⟩)
      (sched_amount m (fwd c k) none (-k)) () (owesB c R ks) rfl) $$ [HO Ht Hs]
  · isplitr; · iexact Hinv
    isplitl [HO]; · iexact HO
    isplitl [Ht]; · iexact Ht
    isplitl [Hs]
    · rw [show (sched m).payload ((fwd c k : Thread nD τ), .reg barS) 0 (-k) = _ from sched_payload m (fwd c k) none (-k)]
      unfold pay; rw [fwd_fwd_neg]; iexact Hs
    iexact Hre
  iintro HO
  iapply Hk
  isplitl [HO]
  · isplitr; · iexact HI
    isplitr; · iexact Hl
    iexists W; iexact HO
  iexact Hc

/-! ## Waits -/

/-- What a whole round's credit stands for, by the cell's name. -/
theorem sched_rest (c : Dev nD) (x : Cell) :
    bigSep ((sched m).duties ((c : Thread nD τ), csem x) 0 \ ∅) (fun d => (sched m).payload ((c : Thread nD τ), csem x) 0 d)
      = bigSep (dutyOf x) fun d => pay m c d x := by
  rw [Finset.sdiff_empty, show (sched m).duties ((c : Thread nD τ), csem x) 0 = dutyOf x from sched_duties m c x]
  exact bigSep_congr fun d _ => sched_payload m c x d

/-- A wait for the whole round of a cell, at nothing or landings owed, gives what the round's credit stands for, and the
    cell's counter, closed at zero. -/
theorem wp_whole {w : TpuEff nD τ sig (Elt F) Λ₀ .tc PUnit} {x : Cell} {u : ℕ}
    (hw : ∀ P : PUnit → sProp 𝕄, wpE (defs₀ (F := F)) 𝒱₀ (c : Thread nD τ) none Set.univ w P = waitSpec (c : Thread nD τ) Set.univ (csem x) u P)
    (hu : u = (dutyOf x).card * amtOf x) {O : CellTallies nD τ sig Unit}
    (hO : (levAts L lv : sProp 𝕄) ⊢ MayWait (c : Thread nD τ) (csem x) () O)
    {p : PUnit → Prog (TpuEff nD τ sig (Elt F) Λ₀ .tc) α} :
    iprop(core m K c O ∗ cred (tallyAt (kcell (c, x)) () u) ∗ atPos EX (kcell (c, x)) 0 ∅ 0)
      ⊢ iprop(((core m K c O ∗ bigSep (dutyOf x) (fun d => pay m c d x) ∗ semVal (kcell (c, x)) 0)
            -∗ wp frame (wpE (defs₀ (F := F)) 𝒱₀ (c : Thread nD τ) none) Set.univ (p ⟨⟩) Q)
          -∗ wp frame (wpE (defs₀ (F := F)) 𝒱₀ (c : Thread nD τ) none) Set.univ (.op w p) Q) := by
  unfold core
  iintro ⟨⟨#HI, #Hl, ⟨%W, HO⟩⟩, Hcr, Hat⟩ Hk
  ihave #Hr := (records_at m K (c, x)) $$ HI
  icases Hr with ⟨#Hinv, #Hre⟩
  iapply (Rounds.wp_wait_rest_token 𝒱₀ EX (sched m) (c : Thread nD τ) none (κ := K (c, x)) hw (Set.mem_univ _) ()
      (O := O) (W := W) (R := 0) (m := 0) (T := ∅) (by rw [Nat.zero_add, hu]; exact (sched_expect m c x).symm)) $$ [Hcr HO Hat]
  · isplitr; · iexact Hinv
    isplitl [Hcr]; · iexact Hcr
    isplitl [HO]; · iexact HO
    isplitr; · iapply hO; iexact Hl
    iexact Hat
  iintro ⟨HO, Hat, -, Hp⟩
  ihave Hp := (Entails.of_eq (sched_rest m c x)) $$ Hp
  imod (Rounds.cell_close EX (sched m) (Set.mem_univ (K (c, x))) (fun h => h) (R := 0 + 1) (fun r hr => sched_later m (kcell (c, x)) r hr)) $$ [Hat] with Hz
  · isplitr; · iexact Hinv
    iexact Hat
  iapply Hk
  isplitl [HO]
  · isplitr; · iexact HI
    isplitr; · iexact Hl
    iexists _; iexact HO
  isplitl [Hp]; · iexact Hp
  iexact Hz

/-- The barrier wait lends the seven slots this device writes. -/
theorem wp_meet {ks : List (Fin 8)} {p : PUnit → Prog (TpuEff nD τ sig (Elt F) Λ₀ .tc) α} :
    iprop(core m K c (owesR c ks) ∗ toMeet c)
      ⊢ iprop(((core m K c (owesR c ks) ∗ chain (lent c) offs ∗ semVal (barCell c) 0)
            -∗ wp frame (wpE (defs₀ (F := F)) 𝒱₀ (c : Thread nD τ) none) Set.univ (p ⟨⟩) Q)
          -∗ wp frame (wpE (defs₀ (F := F)) 𝒱₀ (c : Thread nD τ) none) Set.univ (.op (.semWait barS 7) p) Q) := by
  have h := wp_whole (Q := Q) m K c (w := .semWait barS 7) (x := none) (u := 7) (wpE_semWait_eq 𝒱₀ (c : Thread nD τ) none Set.univ) (by decide)
    (mayWait_bar c ks) (p := p)
  rw [chain_of (fun d => pay m c d none) offs (dutyOf none) (by decide) (by decide)] at h
  unfold toMeet
  exact h

/-- The wait for the landing in slot `k` gives the slot with its writer's block. -/
theorem wp_land {k : Fin 8} (hk : k ≠ 0) (ks : List (Fin 8)) {o : Fin 1 → ℕ} {ho} (h1 : o = ![k.val]) {o3 : Fin 3 → ℕ} {ho3} (h3 : o3 = ![k.val, 0, 0])
    {src : Memref sig .tc .vmem S96x768 .bf16} {hs} {hd}
    {p : PUnit → Prog (TpuEff nD τ sig (Elt F) Λ₀ .tc) α} :
    iprop(core m K c 0 ∗ chain (toLand c) (k :: ks))
      ⊢ iprop(((core m K c 0 ∗ chain (toLand c) ks ∗ rHas c k (part m (bwd c k) c) ∗ semVal (recvCell c k) 0)
            -∗ wp frame (wpE (defs₀ (F := F)) 𝒱₀ (c : Thread nD τ) none) Set.univ (p ⟨⟩) Q)
          -∗ wp frame (wpE (defs₀ (F := F)) 𝒱₀ (c : Thread nD τ) none) Set.univ
            (.op (.waitDma2 ((cc0_scratch4.slice (Rect.unit (s := S8) o S1.size ho)).squeeze S_ squeezes_S1_S_).sem src
              ((rM.slice (Rect.unit (s := S8x96x768) o3 S1x96x768.size ho3) (fun _ => rfl)).squeeze S96x768 squeezes_S1x96x768_S96x768) hs hd) p) Q) := by
  subst h1 h3
  have hd0 : dutyOf (some (true, k)) = {0} := if_neg hk
  have h := wp_whole (Q := Q) m K c (w := .waitDma2 (recvS k) src (rSlot k) hs hd) (x := some (true, k)) (u := N)
    (wpE_waitDma2_eq 𝒱₀ (c : Thread nD τ) none Set.univ) (by rw [hd0]; exact (Nat.one_mul _).symm) (O := 0)
    (by rw [MayWait_zero]; iintro -; iempintro) (p := p)
  rw [hd0, bigSep_singleton, show pay m c 0 (some (true, k)) = rHas c k (part m (bwd c k) c) from rfl] at h
  rw [chain_cons, toLand]
  iintro ⟨Hc, ⟨H1, H2⟩, Hr⟩ Hk
  iapply h $$ [Hc H1 H2]
  · isplitl [Hc]; · iexact Hc
    isplitl [H1] <;> iassumption
  iintro ⟨Hc, Hp, Hz⟩
  iapply Hk
  isplitl [Hc]; · iexact Hc
  isplitl [Hr]; · iexact Hr
  isplitl [Hp]; · iexact Hp
  iexact Hz

/-- The wait for the read-out of the copy of offset `k` gives its source slot back. -/
theorem wp_sent {k : Fin 8} (hk : k ≠ 0) {o : Fin 1 → ℕ} {ho} (h1 : o = ![k.val]) {o3 : Fin 3 → ℕ} {ho3} (h3 : o3 = ![k.val, 0, 0])
    {src : Memref sig .tc .vmem S96x768 .bf16} {hs} {hd}
    {p : PUnit → Prog (TpuEff nD τ sig (Elt F) Λ₀ .tc) α} :
    iprop(core m K c 0 ∗ flying c k)
      ⊢ iprop(((core m K c 0 ∗ sAny c k ∗ semVal (sendCell c k) 0)
            -∗ wp frame (wpE (defs₀ (F := F)) 𝒱₀ (c : Thread nD τ) none) Set.univ (p ⟨⟩) Q)
          -∗ wp frame (wpE (defs₀ (F := F)) 𝒱₀ (c : Thread nD τ) none) Set.univ
            (.op (.waitDma2 ((cc0_scratch3.slice (Rect.unit (s := S8) o S1.size ho)).squeeze S_ squeezes_S1_S_).sem src
              ((sM.slice (Rect.unit (s := S8x96x768) o3 S1x96x768.size ho3) (fun _ => rfl)).squeeze S96x768 squeezes_S1x96x768_S96x768) hs hd) p) Q) := by
  subst h1 h3
  have hd0 : dutyOf (some (false, k)) = {0} := if_neg hk
  have h := wp_whole (Q := Q) m K c (w := .waitDma2 (sendS k) src (sSlot k) hs hd) (x := some (false, k)) (u := N)
    (wpE_waitDma2_eq 𝒱₀ (c : Thread nD τ) none Set.univ) (by rw [hd0]; exact (Nat.one_mul _).symm) (O := 0)
    (by rw [MayWait_zero]; iintro -; iempintro) (p := p)
  rw [hd0, bigSep_singleton] at h
  unfold flying
  exact h

/-! ## Blocks -/

omit [FloatOps F] in
/-- The elements a slot's squeezed view names are its rectangle's. -/
theorem rSlot_set (k : Fin 8) : (rSlot k).view.set = (slotRect k).set := by
  rw [show (rSlot k).view.set = (rM.view.slice (slotRect k)).set from View.set_reshape _ _]
  exact View.set_slice_whole _ _
omit [FloatOps F] in
theorem sSlot_set (k : Fin 8) : (sSlot k).view.set = (slotRect k).set := by
  rw [show (sSlot k).view.set = (sM.view.slice (slotRect k)).set from View.set_reshape _ _]
  exact View.set_slice_whole _ _

omit [FloatOps F] in
/-- A load or a store through a slot's rectangle stays within the slot. -/
theorem rSlot_on (k : Fin 8) : rM.view.setOn (slotRect k).toLoadRect.set ⊆ (rSlot k).view.set := by
  rw [show (rSlot k).view.set = (rM.view.slice (slotRect k)).set from View.set_reshape _ _, View.set_slice]; exact subset_rfl
omit [FloatOps F] in
theorem sSlot_on (k : Fin 8) : sM.view.setOn (slotRect k).toLoadRect.set ⊆ (sSlot k).view.set := by
  rw [show (sSlot k).view.set = (sM.view.slice (slotRect k)).set from View.set_reshape _ _, View.set_slice]; exact subset_rfl
omit [FloatOps F] in
theorem sSlot_at (k : Fin 8) : (sM.access (slotRect k)).setOn Finset.univ ⊆ (sSlot k).view.set := by
  rw [show (sSlot k).view.set = (sM.view.slice (slotRect k)).set from View.set_reshape _ _]; exact subset_rfl

/-- Storing the block of offset `k` into its send slot; the slot is read first and the value dropped. -/
theorem wp_fill {k : Fin 8} (ks : List (Fin 8)) {o : Fin 3 → ℕ} {ho : ∀ a, o a + S1x96x768.size a ≤ S8x96x768.size a} (h3 : o = ![k.val, 0, 0]) (X : FVec F S1x96x768 .bf16) {hl} {hx} {hm}
    {p : PUnit → Prog (TpuEff nD τ sig (Elt F) Λ₀ .tc) α} :
    (chain (sAny c) (k :: ks))
      ⊢ iprop(((chain (sAny c) ks ∗ sHas c k X) -∗ wp frame (wpE (defs₀ (F := F)) 𝒱₀ (c : Thread nD τ) none) Set.univ (p ⟨⟩) Q)
          -∗ wp frame (wpE (defs₀ (F := F)) 𝒱₀ (c : Thread nD τ) none) Set.univ
            (.op (.load sM (Rect.unit (s := S8x96x768) o S1x96x768.size ho).toLoadRect hl) fun _ =>
              .op (.store sM (Rect.unit (s := S8x96x768) o S1x96x768.size ho) X Finset.univ hx hm) p) Q) := by
  subst h3
  rw [chain_cons, sAny]; unfold sHas
  iintro ⟨⟨%f, Hs⟩, Hc⟩ Hk
  iapply (wp_load 𝒱₀ (c : Thread nD τ) none Set.univ (m := sM) (r := (slotRect k).toLoadRect)
    (S := (sSlot k).view.set) (sSlot_on k)) $$ Hs; iintro Hs
  iapply (wp_store 𝒱₀ (c : Thread nD τ) none Set.univ (m := sM) (r := slotRect k) (Mk := Finset.univ) (S := (sSlot k).view.set)
    (sSlot_at k)) $$ Hs; iintro Hs
  iapply Hk
  isplitl [Hc]; · iexact Hc
  iexists _
  isplitr [Hs]; swap; · iexact Hs
  ipureintro
  exact View.read_write_univ (v := sM.view.slice (slotRect k)) f X

/-- The copy of offset `k`: this device's block for the device `k` places on leaves its send slot for the lent slot there. -/
theorem wp_copy {n : Dev nD} {k : Fin 8} (hn : n = fwd c k) (hk : k ≠ 0) (ks : List (Fin 8))
    {o₁ o₂ : Fin 1 → ℕ} {ho₁ ho₂} (h1 : o₁ = ![k.val]) (h2 : o₂ = ![k.val]) {o₃ o₄ : Fin 3 → ℕ} {ho₃ ho₄} (h3 : o₃ = ![k.val, 0, 0]) (h4 : o₄ = ![k.val, 0, 0])
    {hsc hs hd ht}
    {p : PUnit → Prog (TpuEff nD τ sig (Elt F) Λ₀ .tc) α} :
    iprop(core m K c (owesR c (k :: ks)) ∗ chain (lent c) (k :: ks) ∗ chain (toCopy c) (k :: ks) ∗ sHas c k (part m c (fwd c k)))
      ⊢ iprop(((core m K c (owesR c ks) ∗ chain (lent c) ks ∗ chain (toCopy c) ks ∗ flying c k)
            -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma ((sM.slice (Rect.unit (s := S8x96x768) o₄ S1x96x768.size ho₄) (fun _ => rfl)).squeeze S96x768 squeezes_S1x96x768_S96x768)
              (.remote (n : Thread nD τ) ((rM.slice (Rect.unit (s := S8x96x768) o₃ S1x96x768.size ho₃) (fun _ => rfl)).squeeze S96x768 squeezes_S1x96x768_S96x768)
                (.dma ((cc0_scratch3.slice (Rect.unit (s := S8) o₁ S1.size ho₁)).squeeze S_ squeezes_S1_S_).sem) hsc)
              (.dma ((cc0_scratch4.slice (Rect.unit (s := S8) o₂ S1.size ho₂)).squeeze S_ squeezes_S1_S_).sem) hs hd ht) p) Q) := by
  subst hn h1 h2 h3 h4
  rw [chain_cons, chain_cons, lent, toCopy]; unfold core sHas
  iintro ⟨⟨#HI, #Hl, ⟨%W, HO⟩⟩, ⟨Hd, Hdc⟩, ⟨⟨Ht1, Ht2, Hat⟩, Hcc⟩, ⟨%f, %hf, Hs⟩⟩ Hk
  unfold rAny
  icases Hd with ⟨%g, Hd⟩
  ihave #Hr := (records_at m K (c, some (false, k))) $$ HI
  icases Hr with ⟨#Hi1, #Hr1⟩
  ihave #Hr := (records_at m K (fwd c k, some (true, k))) $$ HI
  icases Hr with ⟨#Hi2, #Hr2⟩
  iapply (Rounds.wp_send_pointsTo 𝒱₀ EX (sched m) (c : Thread nD τ) none (c' := (fwd c k : Thread nD τ)) (src := sSlot k) (dst := rSlot k)
      (sS := .dma (sendS k)) (sem := .dma (recvS k)) (κ₁ := K (c, some (false, k))) (κ₂ := K (fwd c k, some (true, k)))
      (r₁ := 0) (r₂ := 0) (d₁ := 0) (d₂ := 0) (fs := f) (fd := g)
      (by rw [show (sched m).duties ((c : Thread nD τ), .dma (sendS k)) 0 = _ from sched_duties m c (some (false, k)), dutyOf, if_neg hk]; exact Finset.mem_singleton_self _)
      (by rw [show (sched m).duties ((fwd c k : Thread nD τ), .dma (recvS k)) 0 = _ from sched_duties m (fwd c k) (some (true, k)), dutyOf, if_neg hk]; exact Finset.mem_singleton_self _)
      () () N rfl (sched_amount m c (some (false, k)) 0) (sched_amount m (fwd c k) (some (true, k)) 0) (owesR c ks) rfl (W := W)
      (by
        rw [show (sched m).payload ((c : Thread nD τ), .dma (sendS k)) 0 0 = _ from sched_payload m c (some (false, k)) 0]
        unfold pay sAny; iintro H; iexists f; iexact H)
      (by
        rw [show (sched m).payload ((fwd c k : Thread nD τ), .dma (recvS k)) 0 0 = _ from sched_payload m (fwd c k) (some (true, k)) 0]
        show _ ⊢ rHas (fwd c k) k (part m (bwd (fwd c k) k) (fwd c k))
        rw [bwd_fwd]; unfold rHas; iintro H; iexists _
        isplitr [H]; swap; · iexact H
        ipureintro
        refine squeeze_inj _ _ (by decide) (by decide) ?_
        rw [← hf]
        exact View.read_write_univ (v := (rSlot k).view) g ((sSlot k).view.read (Elt F) f))) $$ [Hs Hd HO Ht1 Ht2]
  · isplitr; · iexact Hi1
    isplitr; · iexact Hi2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply Hk
  isplitl [HO]
  · isplitr; · iexact HI
    isplitr; · iexact Hl
    iexists W; iexact HO
  isplitl [Hdc]; · iexact Hdc
  isplitl [Hcc]; · iexact Hcc
  unfold flying
  isplitl [Hcr] <;> iassumption

/-- A received block is read where it landed. -/
theorem wp_block {k : Fin 8} {o : Fin 3 → ℕ} {ho : ∀ a, o a + S1x96x768.size a ≤ S8x96x768.size a} (h3 : o = ![k.val, 0, 0]) (X : Vec F S1x96x768 .bf16) {hl}
    {p : Vec F S1x96x768 .bf16 → Prog (TpuEff nD τ sig (Elt F) Λ₀ .tc) α} :
    (rHas c k X)
      ⊢ iprop((rHas c k X -∗ wp frame (wpE (defs₀ (F := F)) 𝒱₀ (c : Thread nD τ) none) Set.univ (p X) Q)
          -∗ wp frame (wpE (defs₀ (F := F)) 𝒱₀ (c : Thread nD τ) none) Set.univ
            (.op (.load rM (Rect.unit (s := S8x96x768) o S1x96x768.size ho).toLoadRect hl) p) Q) := by
  subst h3
  unfold rHas
  iintro ⟨%f, %hf, Hs⟩ Hk
  subst hf
  iapply (wp_load 𝒱₀ (c : Thread nD τ) none Set.univ (m := rM) (r := (slotRect k).toLoadRect)
    (S := (rSlot k).view.set) (rSlot_on k)) $$ Hs; iintro Hs
  iapply Hk
  iexists f
  isplitr [Hs]; swap; · iexact Hs
  ipureintro; rfl

/-! ## Whole buffers -/

/-- A whole buffer on this device at given contents. -/
abbrev held (b : Ref sig .tc) (X : b.ty.Contents (Elt F)) : sProp 𝕄 := ((c : Thread nD τ).loc b ↦{fullShare} X)

/-- A load from a whole buffer held at `f`, whose rectangle reads `X` there. -/
theorem wp_get {s : Shape} {e : EltTy} (M : Memref sig .tc .vmem s e) (r : Rect s) (f : Buf (Elt F) (M.view.loc (c : Thread nD τ))) {X : r.shape.Idx → Elt F e}
    (hX : M.view.readAt (Elt F) r.toLoadRect f = X) {hl} {p : (r.shape.Idx → Elt F e) → Prog (TpuEff nD τ sig (Elt F) Λ₀ .tc) α} :
    (M.view.loc (c : Thread nD τ) ↦{fullShare} f : sProp 𝕄)
      ⊢ iprop(((M.view.loc (c : Thread nD τ) ↦{fullShare} f) -∗ wp frame (wpE (defs₀ (F := F)) 𝒱₀ (c : Thread nD τ) none) Set.univ (p X) Q)
          -∗ wp frame (wpE (defs₀ (F := F)) 𝒱₀ (c : Thread nD τ) none) Set.univ (.op (.load M r.toLoadRect hl) p) Q) := by
  subst hX
  exact wp_load 𝒱₀ (c : Thread nD τ) none Set.univ (m := M) (r := r.toLoadRect) (Finset.subset_univ _)

/-- A store into a whole buffer held at `f`, leaving it at `g`; the rectangle is read first and the value dropped. -/
theorem wp_put {s : Shape} {e : EltTy} (M : Memref sig .tc .vmem s e) (r : Rect s) (f g : Buf (Elt F) (M.view.loc (c : Thread nD τ))) {X : r.shape.Idx → Elt F e}
    (hX : (M.access r).write (Elt F) f X Finset.univ = g) {hl hx hm} {p : PUnit → Prog (TpuEff nD τ sig (Elt F) Λ₀ .tc) α} :
    (M.view.loc (c : Thread nD τ) ↦{fullShare} f : sProp 𝕄)
      ⊢ iprop(((M.view.loc (c : Thread nD τ) ↦{fullShare} g) -∗ wp frame (wpE (defs₀ (F := F)) 𝒱₀ (c : Thread nD τ) none) Set.univ (p ⟨⟩) Q)
          -∗ wp frame (wpE (defs₀ (F := F)) 𝒱₀ (c : Thread nD τ) none) Set.univ
            (.op (.load M r.toLoadRect hl) fun _ => .op (.store M r X Finset.univ hx hm) p) Q) := by
  subst hX
  iintro H Hk
  iapply (wp_load 𝒱₀ (c : Thread nD τ) none Set.univ (m := M) (r := r.toLoadRect) (Finset.subset_univ _)) $$ H; iintro H
  iapply (wp_store 𝒱₀ (c : Thread nD τ) none Set.univ (m := M) (r := r) (Mk := Finset.univ) (Finset.subset_univ _)) $$ H; iintro H
  iapply Hk; iexact H

/-- The rows of `a` that belong to device `d`. -/
theorem wp_rows {d : Dev nD} {o : Fin 2 → ℕ} {ho : ∀ a, o a + S96x384.size a ≤ S768x384.size a} (h2 : o = ![96 * d.val, 0]) {hl}
    {p : Vec F S96x384 .f32 → Prog (TpuEff nD τ sig (Elt F) Λ₀ .tc) α} :
    (held c cc0_stg0_0 (aBlk m c) : sProp 𝕄)
      ⊢ iprop((held c cc0_stg0_0 (aBlk m c) -∗ wp frame (wpE (defs₀ (F := F)) 𝒱₀ (c : Thread nD τ) none) Set.univ (p (rows m c d)) Q)
          -∗ wp frame (wpE (defs₀ (F := F)) 𝒱₀ (c : Thread nD τ) none) Set.univ
            (.op (.load aM (Rect.unit (s := S768x384) o S96x384.size ho).toLoadRect hl) p) Q) := by
  subst h2
  exact wp_get c aM (Rect.unit (s := S768x384) ![96 * d.val, 0] S96x384.size ho) (aBlk m c) rfl

theorem zero2 : (![0, 0] : Fin 2 → ℕ) = fun _ => 0 := by funext a; fin_cases a <;> rfl

/-- The staged `b`, read whole. -/
theorem wp_get_b (X : (cc0_stg1_0 : Ref sig .tc).ty.Contents (Elt F)) {ho : ∀ a, (![0, 0] : Fin 2 → ℕ) a + S384x768.size a ≤ S384x768.size a} {hl}
    {p : Vec F S384x768 .f32 → Prog (TpuEff nD τ sig (Elt F) Λ₀ .tc) α} :
    (held c cc0_stg1_0 X : sProp 𝕄)
      ⊢ iprop((held c cc0_stg1_0 X -∗ wp frame (wpE (defs₀ (F := F)) 𝒱₀ (c : Thread nD τ) none) Set.univ (p X) Q)
          -∗ wp frame (wpE (defs₀ (F := F)) 𝒱₀ (c : Thread nD τ) none) Set.univ
            (.op (.load bM (Rect.unit (s := S384x768) ![0, 0] S384x768.size ho).toLoadRect hl) p) Q) :=
  wp_get c bM (Rect.unit (s := S384x768) ![0, 0] S384x768.size ho) X (Memref.readAt_unit_zero (Elt F) cc0_stg1_0 zero2 ho X)

/-- The exchange's `b`, read whole. -/
theorem wp_get_h (X : (cc0_scratch0 : Ref sig .tc).ty.Contents (Elt F)) {ho : ∀ a, (![0, 0] : Fin 2 → ℕ) a + S384x768.size a ≤ S384x768.size a} {hl}
    {p : Vec F S384x768 .bf16 → Prog (TpuEff nD τ sig (Elt F) Λ₀ .tc) α} :
    (held c cc0_scratch0 X : sProp 𝕄)
      ⊢ iprop((held c cc0_scratch0 X -∗ wp frame (wpE (defs₀ (F := F)) 𝒱₀ (c : Thread nD τ) none) Set.univ (p X) Q)
          -∗ wp frame (wpE (defs₀ (F := F)) 𝒱₀ (c : Thread nD τ) none) Set.univ
            (.op (.load hM (Rect.unit (s := S384x768) ![0, 0] S384x768.size ho).toLoadRect hl) p) Q) :=
  wp_get c hM (Rect.unit (s := S384x768) ![0, 0] S384x768.size ho) X (Memref.readAt_unit_zero (Elt F) cc0_scratch0 zero2 ho X)

/-- The exchange's `b` stored over whatever was there. -/
theorem wp_put_h (Y X : (cc0_scratch0 : Ref sig .tc).ty.Contents (Elt F)) {ho : ∀ a, (![0, 0] : Fin 2 → ℕ) a + S384x768.size a ≤ S384x768.size a} {hl} {hx} {hm}
    {p : PUnit → Prog (TpuEff nD τ sig (Elt F) Λ₀ .tc) α} :
    (held c cc0_scratch0 Y : sProp 𝕄)
      ⊢ iprop((held c cc0_scratch0 X -∗ wp frame (wpE (defs₀ (F := F)) 𝒱₀ (c : Thread nD τ) none) Set.univ (p ⟨⟩) Q)
          -∗ wp frame (wpE (defs₀ (F := F)) 𝒱₀ (c : Thread nD τ) none) Set.univ
            (.op (.load hM (Rect.unit (s := S384x768) ![0, 0] S384x768.size ho).toLoadRect hl) fun _ =>
              .op (.store hM (Rect.unit (s := S384x768) ![0, 0] S384x768.size ho) X Finset.univ hx hm) p) Q) :=
  wp_put c hM (Rect.unit (s := S384x768) ![0, 0] S384x768.size ho) Y X (Memref.write_access_unit_zero_univ (Elt F) cc0_scratch0 zero2 ho Y X)

/-- The staged result, read whole. -/
theorem wp_get_o (X : (cc0_stg2_0 : Ref sig .tc).ty.Contents (Elt F)) {ho : ∀ a, (![0, 0] : Fin 2 → ℕ) a + S96x768.size a ≤ S96x768.size a} {hl}
    {p : Vec F S96x768 .f32 → Prog (TpuEff nD τ sig (Elt F) Λ₀ .tc) α} :
    (held c cc0_stg2_0 X : sProp 𝕄)
      ⊢ iprop((held c cc0_stg2_0 X -∗ wp frame (wpE (defs₀ (F := F)) 𝒱₀ (c : Thread nD τ) none) Set.univ (p X) Q)
          -∗ wp frame (wpE (defs₀ (F := F)) 𝒱₀ (c : Thread nD τ) none) Set.univ
            (.op (.load oM (Rect.unit (s := S96x768) ![0, 0] S96x768.size ho).toLoadRect hl) p) Q) :=
  wp_get c oM (Rect.unit (s := S96x768) ![0, 0] S96x768.size ho) X (Memref.readAt_unit_zero (Elt F) cc0_stg2_0 zero2 ho X)

/-- The result stored over whatever was there. -/
theorem wp_put_o (Y X : (cc0_stg2_0 : Ref sig .tc).ty.Contents (Elt F)) {ho : ∀ a, (![0, 0] : Fin 2 → ℕ) a + S96x768.size a ≤ S96x768.size a} {hl} {hx} {hm}
    {p : PUnit → Prog (TpuEff nD τ sig (Elt F) Λ₀ .tc) α} :
    (held c cc0_stg2_0 Y : sProp 𝕄)
      ⊢ iprop((held c cc0_stg2_0 X -∗ wp frame (wpE (defs₀ (F := F)) 𝒱₀ (c : Thread nD τ) none) Set.univ (p ⟨⟩) Q)
          -∗ wp frame (wpE (defs₀ (F := F)) 𝒱₀ (c : Thread nD τ) none) Set.univ
            (.op (.load oM (Rect.unit (s := S96x768) ![0, 0] S96x768.size ho).toLoadRect hl) fun _ =>
              .op (.store oM (Rect.unit (s := S96x768) ![0, 0] S96x768.size ho) X Finset.univ hx hm) p) Q) :=
  wp_put c oM (Rect.unit (s := S96x768) ![0, 0] S96x768.size ho) Y X (Memref.write_access_unit_zero_univ (Elt F) cc0_stg2_0 zero2 ho Y X)

end Cert.KernelIdeal.Scatter

end
-- ==== Proof.Ideal.Body.lean ====
/-
  The reduce-scatter body: what one offset does in the sending half, in the receiving half and at the last waits, each as one
  rule; and the body executed once with them, from the seven notices to the last wait.
-/
module

public import proofs.«01_k».proof.Proof.Ideal.Steps

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ) (c : Dev nD)

/-- The device a computed number names is the one `k` places on. -/
theorem at_fwd {x : ℕ} (h : x < nD) (c : Dev nD) (k : Fin 8) (e : x = (c.val + k.val) % 8) : (⟨x, h⟩ : Dev nD) = fwd c k :=
  Fin.ext (e.trans (fwd_val c k).symm)

/-- The rows read for the copy of offset `r + 1` are those of the device that many places on. -/
theorem off_fwd (c : Dev nD) (r : Fin 7) : k0_off1 c (BitVec.ofNat 32 (1 + r.val)) = ![96 * (fwd c r.succ).val, 0] := by
  rw [k0_off1_eq, fwd_val, Fin.val_succ, Nat.add_assoc]

/-- What the body starts from, by what it is for. -/
def begun : sProp 𝕄 :=
  iprop(core m K c (O₀ c) ∗ chain (toSignal c) offs ∗ toMeet c ∗ chain (toCopy c) offs ∗ chain (toLand c) offs ∗ chain (sAny c) offs
    ∗ (∃ Y, held c cc0_scratch0 Y) ∗ held c cc0_stg0_0 (aBlk m c) ∗ held c cc0_stg1_0 (bBlk m c) ∗ (∃ Z, held c cc0_stg2_0 Z))

/-- A slot of either buffer, and its cell closed at zero. -/
def rDone (c : Dev nD) (k : Fin 8) : sProp 𝕄 := iprop(rAny c k ∗ semVal (recvCell c k) 0)
def sDone (c : Dev nD) (k : Fin 8) : sProp 𝕄 := iprop(sAny c k ∗ semVal (sendCell c k) 0)

/-- What the body ends with: nothing owed, every used slot back and its cell closed, the operands as they were, and the
    result holding the sum of all eight devices' blocks. -/
def ended : sProp 𝕄 :=
  iprop(core m K c 0 ∗ semVal (barCell c) 0 ∗ chain (rDone c) offs ∗ chain (sDone c) offs
    ∗ (∃ Y, held c cc0_scratch0 Y) ∗ held c cc0_stg0_0 (aBlk m c) ∗ held c cc0_stg1_0 (bBlk m c) ∗ held c cc0_stg2_0 (sumOf m c offs))

/-! ## One offset's work -/

variable {α : Type} {Q : α → sProp (MT nD τ sig Unit (Elt F) ℕ UU ℕ)}

omit [FloatOps F] in
/-- A chain grows at its end. -/
theorem chain_snoc (P : Fin 8 → sProp 𝕄) (k : Fin 8) : ∀ ks : List (Fin 8), iprop(chain P ks ∗ P k) ⊢ chain P (ks ++ [k])
  | [] => by rw [List.nil_append]; unfold chain; iintro ⟨-, H⟩; isplitl [H]; · iexact H
             unfold chain; iempintro
  | j :: ks => by
    rw [List.cons_append, chain_cons, chain_cons]
    iintro ⟨⟨Hj, Hks⟩, H⟩
    isplitl [Hj]; · iexact Hj
    iapply (chain_snoc P k ks); isplitl [Hks] <;> iassumption

/-- Between two offsets of the sending half: the copies of `done` are in flight, those of `ks` still to be made. -/
def sending (ks done : List (Fin 8)) : sProp 𝕄 :=
  iprop(core m K c (owesR c ks) ∗ chain (lent c) ks ∗ chain (toCopy c) ks ∗ chain (sAny c) ks ∗ chain (flying c) done
    ∗ held c cc0_stg0_0 (aBlk m c) ∗ held c cc0_scratch0 (hBlk m c))

/-- The block of offset `k` computed and stored into its send slot. -/
theorem wp_product {k : Fin 8} (ks : List (Fin 8)) {g : Vec F S96x384 .f32 → Vec F S384x768 .bf16 → FVec F S1x96x768 .bf16} (hg : ∀ x y, g x y = k0_pay2 x y)
    {o : Fin 2 → ℕ} {ho : ∀ a, o a + S96x384.size a ≤ S768x384.size a} (h2 : o = ![96 * (fwd c k).val, 0])
    {ho' : ∀ a, (![0, 0] : Fin 2 → ℕ) a + S384x768.size a ≤ S384x768.size a}
    {o3 : Fin 3 → ℕ} {ho3 : ∀ a, o3 a + S1x96x768.size a ≤ S8x96x768.size a} (h3 : o3 = ![k.val, 0, 0]) {hl₁ hl₂ hl₃} {hx : Vec F S96x384 .f32 → Vec F S384x768 .bf16 → _} {hm}
    {p : PUnit → Prog (TpuEff nD τ sig (Elt F) Λ₀ .tc) α} :
    iprop(chain (sAny c) (k :: ks) ∗ held c cc0_stg0_0 (aBlk m c) ∗ held c cc0_scratch0 (hBlk m c))
      ⊢ iprop(((chain (sAny c) ks ∗ sHas c k (part m c (fwd c k)) ∗ held c cc0_stg0_0 (aBlk m c) ∗ held c cc0_scratch0 (hBlk m c))
            -∗ wp frame (wpE (defs₀ (F := F)) 𝒱₀ (c : Thread nD τ) none) Set.univ (p ⟨⟩) Q)
          -∗ wp frame (wpE (defs₀ (F := F)) 𝒱₀ (c : Thread nD τ) none) Set.univ
            (.op (.load aM (Rect.unit (s := S768x384) o S96x384.size ho).toLoadRect hl₁) fun x =>
              .op (.load hM (Rect.unit (s := S384x768) ![0, 0] S384x768.size ho').toLoadRect hl₂) fun y =>
              .op (.load sM (Rect.unit (s := S8x96x768) o3 S1x96x768.size ho3).toLoadRect hl₃) fun _ =>
              .op (.store sM (Rect.unit (s := S8x96x768) o3 S1x96x768.size ho3) (g x y) Finset.univ (hx x y) hm) p) Q) := by
  iintro ⟨HF, Ha, Hh⟩ Hk
  iapply (wp_rows m c (d := fwd c k) h2) $$ Ha; iintro Ha
  iapply (wp_get_h c (hBlk m c)) $$ Hh; iintro Hh
  iapply (wp_fill c (k := k) ks h3 _) $$ HF; iintro ⟨HF, Hs⟩
  rw [hg, show k0_pay2 (rows m c (fwd c k)) (hBlk m c) = part m c (fwd c k) from rfl]
  iapply Hk
  isplitl [HF]; · iexact HF
  isplitl [Hs]; · iexact Hs
  isplitl [Ha] <;> iassumption

/-- The block of offset `k` on its way, once it is in its send slot. -/
theorem wp_launch {n : Dev nD} {k : Fin 8} (hn : n = fwd c k) (hk : k ≠ 0) (ks done : List (Fin 8))
    {o₁ o₂ : Fin 1 → ℕ} {ho₁ ho₂} (h1 : o₁ = ![k.val]) (h2 : o₂ = ![k.val]) {o₃ o₄ : Fin 3 → ℕ} {ho₃ ho₄} (h3 : o₃ = ![k.val, 0, 0]) (h4 : o₄ = ![k.val, 0, 0])
    {hsc hs hd ht}
    {p : PUnit → Prog (TpuEff nD τ sig (Elt F) Λ₀ .tc) α} :
    iprop(core m K c (owesR c (k :: ks)) ∗ chain (lent c) (k :: ks) ∗ chain (toCopy c) (k :: ks) ∗ chain (flying c) done
        ∗ (chain (sAny c) ks ∗ sHas c k (part m c (fwd c k)) ∗ held c cc0_stg0_0 (aBlk m c) ∗ held c cc0_scratch0 (hBlk m c)))
      ⊢ iprop((sending m K c ks (done ++ [k]) -∗ wp frame (wpE (defs₀ (F := F)) 𝒱₀ (c : Thread nD τ) none) Set.univ (p ⟨⟩) Q)
          -∗ wp frame (wpE (defs₀ (F := F)) 𝒱₀ (c : Thread nD τ) none) Set.univ
            (.op (.enqueueDma ((sM.slice (Rect.unit (s := S8x96x768) o₄ S1x96x768.size ho₄) (fun _ => rfl)).squeeze S96x768 squeezes_S1x96x768_S96x768)
              (.remote (n : Thread nD τ) ((rM.slice (Rect.unit (s := S8x96x768) o₃ S1x96x768.size ho₃) (fun _ => rfl)).squeeze S96x768 squeezes_S1x96x768_S96x768)
                (.dma ((cc0_scratch3.slice (Rect.unit (s := S8) o₁ S1.size ho₁)).squeeze S_ squeezes_S1_S_).sem) hsc)
              (.dma ((cc0_scratch4.slice (Rect.unit (s := S8) o₂ S1.size ho₂)).squeeze S_ squeezes_S1_S_).sem) hs hd ht) p) Q) := by
  iintro ⟨HC, HD, HY, Hf, HF, Hs, Ha, Hh⟩ Hk
  iapply (wp_copy m K c (k := k) hn hk ks h1 h2 h3 h4) $$ [HC HD HY Hs]
  · isplitl [HC]; · iexact HC
    isplitl [HD]; · iexact HD
    isplitl [HY] <;> iassumption
  iintro ⟨HC, HD, HY, Hk1⟩
  iapply Hk
  unfold sending
  isplitl [HC]; · iexact HC
  isplitl [HD]; · iexact HD
  isplitl [HY]; · iexact HY
  isplitl [HF]; · iexact HF
  isplitl [Hf Hk1]; · iapply (chain_snoc (flying c) k done); isplitl [Hf] <;> iassumption
  isplitl [Ha] <;> iassumption

/-- One offset of the sending half after the barrier: its block computed, stored and sent. -/
theorem wp_offset {n : Dev nD} {k : Fin 8} (hn : n = fwd c k) (hk : k ≠ 0) (ks done : List (Fin 8))
    {g : Vec F S96x384 .f32 → Vec F S384x768 .bf16 → FVec F S1x96x768 .bf16} (hg : ∀ x y, g x y = k0_pay2 x y)
    {o : Fin 2 → ℕ} {ho : ∀ a, o a + S96x384.size a ≤ S768x384.size a} (h : o = ![96 * (fwd c k).val, 0])
    {ho' : ∀ a, (![0, 0] : Fin 2 → ℕ) a + S384x768.size a ≤ S384x768.size a}
    {o₁ o₂ : Fin 1 → ℕ} {ho₁ ho₂} (h1 : o₁ = ![k.val]) (h2 : o₂ = ![k.val]) {o₃ o₄ o₅ : Fin 3 → ℕ} {ho₃ ho₄}
    {ho₅ : ∀ a, o₅ a + S1x96x768.size a ≤ S8x96x768.size a} (h3 : o₃ = ![k.val, 0, 0]) (h4 : o₄ = ![k.val, 0, 0]) (h5 : o₅ = ![k.val, 0, 0])
    {hl₁ hl₂ hl₃} {hx : Vec F S96x384 .f32 → Vec F S384x768 .bf16 → _} {hm hsc hs hd ht}
    {p : PUnit → Prog (TpuEff nD τ sig (Elt F) Λ₀ .tc) α} :
    (sending m K c (k :: ks) done)
      ⊢ iprop((sending m K c ks (done ++ [k]) -∗ wp frame (wpE (defs₀ (F := F)) 𝒱₀ (c : Thread nD τ) none) Set.univ (p ⟨⟩) Q)
          -∗ wp frame (wpE (defs₀ (F := F)) 𝒱₀ (c : Thread nD τ) none) Set.univ
            (.op (.load aM (Rect.unit (s := S768x384) o S96x384.size ho).toLoadRect hl₁) fun x =>
              .op (.load hM (Rect.unit (s := S384x768) ![0, 0] S384x768.size ho').toLoadRect hl₂) fun y =>
              .op (.load sM (Rect.unit (s := S8x96x768) o₅ S1x96x768.size ho₅).toLoadRect hl₃) fun _ =>
              .op (.store sM (Rect.unit (s := S8x96x768) o₅ S1x96x768.size ho₅) (g x y) Finset.univ (hx x y) hm) fun _ =>
              .op (.enqueueDma ((sM.slice (Rect.unit (s := S8x96x768) o₄ S1x96x768.size ho₄) (fun _ => rfl)).squeeze S96x768 squeezes_S1x96x768_S96x768)
                (.remote (n : Thread nD τ) ((rM.slice (Rect.unit (s := S8x96x768) o₃ S1x96x768.size ho₃) (fun _ => rfl)).squeeze S96x768 squeezes_S1x96x768_S96x768)
                  (.dma ((cc0_scratch3.slice (Rect.unit (s := S8) o₁ S1.size ho₁)).squeeze S_ squeezes_S1_S_).sem) hsc)
                (.dma ((cc0_scratch4.slice (Rect.unit (s := S8) o₂ S1.size ho₂)).squeeze S_ squeezes_S1_S_).sem) hs hd ht) p) Q) := by
  unfold sending
  iintro ⟨HC, HD, HY, HF, Hf, Ha, Hh⟩ Hk
  iapply (wp_product m c (k := k) ks hg h h5) $$ [HF Ha Hh]
  · isplitl [HF]; · iexact HF
    isplitl [Ha] <;> iassumption
  iintro Hb
  iapply (wp_launch m K c hn hk ks done h1 h2 h3 h4) $$ [HC HD HY Hf Hb]
  · isplitl [HC]; · iexact HC
    isplitl [HD]; · iexact HD
    isplitl [HY]; · iexact HY
    isplitl [Hf] <;> iassumption
  unfold sending
  iexact Hk

/-- Between two offsets of the receiving half: the blocks of `done` are in the sum, those of `ks` still to be added. -/
def adding (ks done : List (Fin 8)) : sProp 𝕄 :=
  iprop(core m K c 0 ∗ chain (toLand c) ks ∗ chain (rDone c) done ∗ held c cc0_stg2_0 (sumOf m c done))

/-- The sum with one more offset's block. -/
theorem sumOf_snoc (done : List (Fin 8)) (k : Fin 8) : sumOf m c (done ++ [k]) = addTo (sumOf m c done) (part m (bwd c k) c) := by
  unfold sumOf; rw [List.foldl_append]; rfl

/-- One offset of the receiving half: its block awaited, and added to the sum. -/
theorem wp_add {k : Fin 8} (hk : k ≠ 0) (ks done : List (Fin 8))
    {g : Vec F S96x768 .f32 → Vec F S1x96x768 .bf16 → FVec F S96x768 .f32} (hg : ∀ x y, g x y = addTo x y)
    {o : Fin 1 → ℕ} {ho} (h1 : o = ![k.val]) {o3 o4 : Fin 3 → ℕ} {ho3} {ho4 : ∀ a, o4 a + S1x96x768.size a ≤ S8x96x768.size a} (h3 : o3 = ![k.val, 0, 0]) (h4 : o4 = ![k.val, 0, 0])
    {src : Memref sig .tc .vmem S96x768 .bf16} {hs hd} {ho' : ∀ a, (![0, 0] : Fin 2 → ℕ) a + S96x768.size a ≤ S96x768.size a}
    {hl₁ hl₂ hl₃} {hx : Vec F S96x768 .f32 → Vec F S1x96x768 .bf16 → _} {hm}
    {p : PUnit → Prog (TpuEff nD τ sig (Elt F) Λ₀ .tc) α} :
    (adding m K c (k :: ks) done)
      ⊢ iprop((adding m K c ks (done ++ [k]) -∗ wp frame (wpE (defs₀ (F := F)) 𝒱₀ (c : Thread nD τ) none) Set.univ (p ⟨⟩) Q)
          -∗ wp frame (wpE (defs₀ (F := F)) 𝒱₀ (c : Thread nD τ) none) Set.univ
            (.op (.waitDma2 ((cc0_scratch4.slice (Rect.unit (s := S8) o S1.size ho)).squeeze S_ squeezes_S1_S_).sem src
              ((rM.slice (Rect.unit (s := S8x96x768) o3 S1x96x768.size ho3) (fun _ => rfl)).squeeze S96x768 squeezes_S1x96x768_S96x768) hs hd) fun _ =>
              .op (.load oM (Rect.unit (s := S96x768) ![0, 0] S96x768.size ho').toLoadRect hl₁) fun x =>
              .op (.load rM (Rect.unit (s := S8x96x768) o4 S1x96x768.size ho4).toLoadRect hl₂) fun y =>
              .op (.load oM (Rect.unit (s := S96x768) ![0, 0] S96x768.size ho').toLoadRect hl₃) fun _ =>
              .op (.store oM (Rect.unit (s := S96x768) ![0, 0] S96x768.size ho') (g x y) Finset.univ (hx x y) hm) p) Q) := by
  unfold adding
  iintro ⟨HC, HL, Hv, Ho⟩ Hk
  iapply (wp_land m K c (k := k) hk ks h1 h3) $$ [HC HL]; · isplitl [HC] <;> iassumption
  iintro ⟨HC, HL, Hr, Hz⟩
  iapply (wp_get_o c (sumOf m c done)) $$ Ho; iintro Ho
  iapply (wp_block c (k := k) h4 _) $$ Hr; iintro Hr
  iapply (wp_put_o c (sumOf m c done) _) $$ Ho; iintro Ho
  rw [hg, ← sumOf_snoc]
  ihave Hr := (rHas_any c k _) $$ Hr
  iapply Hk
  isplitl [HC]; · iexact HC
  isplitl [HL]; · iexact HL
  isplitl [Hv Hr Hz]
  · iapply (chain_snoc (rDone c) k done)
    isplitl [Hv]; · iexact Hv
    unfold rDone; isplitl [Hr] <;> iassumption
  iexact Ho

/-- Between two of the last waits: the copies of `done` have been read out, those of `ks` not yet awaited. -/
def draining (ks done : List (Fin 8)) : sProp 𝕄 := iprop(core m K c 0 ∗ chain (flying c) ks ∗ chain (sDone c) done)

/-- One of the last waits. -/
theorem wp_drain {k : Fin 8} (hk : k ≠ 0) (ks done : List (Fin 8)) {o : Fin 1 → ℕ} {ho} (h1 : o = ![k.val]) {o3 : Fin 3 → ℕ} {ho3} (h3 : o3 = ![k.val, 0, 0])
    {src : Memref sig .tc .vmem S96x768 .bf16} {hs} {hd}
    {p : PUnit → Prog (TpuEff nD τ sig (Elt F) Λ₀ .tc) α} :
    (draining m K c (k :: ks) done)
      ⊢ iprop((draining m K c ks (done ++ [k]) -∗ wp frame (wpE (defs₀ (F := F)) 𝒱₀ (c : Thread nD τ) none) Set.univ (p ⟨⟩) Q)
          -∗ wp frame (wpE (defs₀ (F := F)) 𝒱₀ (c : Thread nD τ) none) Set.univ
            (.op (.waitDma2 ((cc0_scratch3.slice (Rect.unit (s := S8) o S1.size ho)).squeeze S_ squeezes_S1_S_).sem src
              ((sM.slice (Rect.unit (s := S8x96x768) o3 S1x96x768.size ho3) (fun _ => rfl)).squeeze S96x768 squeezes_S1x96x768_S96x768) hs hd) p) Q) := by
  unfold draining
  rw [chain_cons]
  iintro ⟨HC, ⟨Hf, Hks⟩, Hd⟩ Hk
  iapply (wp_sent m K c (k := k) hk h1 h3) $$ [HC Hf]; · isplitl [HC] <;> iassumption
  iintro ⟨HC, Hs, Hz⟩
  iapply Hk
  isplitl [HC]; · iexact HC
  isplitl [Hks]; · iexact Hks
  iapply (chain_snoc (sDone c) k done)
  isplitl [Hd]; · iexact Hd
  unfold sDone; isplitl [Hs] <;> iassumption

/-! ## The body -/

set_option maxHeartbeats 8000000 in
set_option maxRecDepth 65536 in
/-- The body takes `begun` to `ended`. -/
theorem body_runs (P : PUnit → sProp (MT nD τ sig Unit (Elt F) ℕ UU ℕ)) :
    iprop(begun m K c ∗ (ended m K c -∗ P ⟨⟩))
      ⊢ wp frame (wpE (defs₀ (F := F)) 𝒱₀ (c : Thread nD τ) none) Set.univ
          (cc0_body aM (Memref.isWhole_whole _) bM (Memref.isWhole_whole _) oM (Memref.isWhole_whole _) hM (Memref.isWhole_whole _)
            sM (Memref.isWhole_whole _) rM (Memref.isWhole_whole _) cc0_scratch3 cc0_scratch4) P := by
  simp only [cc0_body_eq_skeleton, k0_part13_eq_skeleton, k0_part12_eq_skeleton, k0_part11_eq_skeleton, k0_part10_eq_skeleton, k0_part9_eq_skeleton,
    k0_part8_eq_skeleton, k0_part7_eq_skeleton, k0_part6_eq_skeleton, k0_part5_eq_skeleton, k0_part4_eq_skeleton, k0_part3_eq_skeleton,
    k0_part2_eq_skeleton, k0_part1_eq_skeleton,
    cc0_body_skel, k0_part13_skel, k0_part12_skel, k0_part11_skel, k0_part10_skel, k0_part9_skel, k0_part8_skel, k0_part7_skel, k0_part6_skel,
    k0_part5_skel, k0_part4_skel, k0_part3_skel, k0_part2_skel, k0_part1_skel,
    semSignalWord, semWaitWord, Prog.lift, Prog.bind_op, Prog.bind_ret, Prog.pure_eq_ret, wp_deviceId]
  unfold begun O₀
  iintro ⟨⟨HC, HS, HM, HY, HL, HF, ⟨%Y, Hh⟩, Ha, Hb, ⟨%Z, Ho⟩⟩, HP⟩
  -- the seven notices
  iapply (wp_notice m K c (at_fwd _ c 1 (k0_dev1_eq c)) (by decide) _ _) $$ [HC HS]; · isplitl [HC] <;> iassumption
  iintro ⟨HC, HS⟩
  iapply (wp_notice m K c (at_fwd _ c 2 (k0_dev2_eq c)) (by decide) _ _) $$ [HC HS]; · isplitl [HC] <;> iassumption
  iintro ⟨HC, HS⟩
  iapply (wp_notice m K c (at_fwd _ c 3 (k0_dev3_eq c)) (by decide) _ _) $$ [HC HS]; · isplitl [HC] <;> iassumption
  iintro ⟨HC, HS⟩
  iapply (wp_notice m K c (at_fwd _ c 4 (k0_dev4_eq c)) (by decide) _ _) $$ [HC HS]; · isplitl [HC] <;> iassumption
  iintro ⟨HC, HS⟩
  iapply (wp_notice m K c (at_fwd _ c 5 (k0_dev5_eq c)) (by decide) _ _) $$ [HC HS]; · isplitl [HC] <;> iassumption
  iintro ⟨HC, HS⟩
  iapply (wp_notice m K c (at_fwd _ c 6 (k0_dev6_eq c)) (by decide) _ _) $$ [HC HS]; · isplitl [HC] <;> iassumption
  iintro ⟨HC, HS⟩
  iapply (wp_notice m K c (at_fwd _ c 7 (k0_dev7_eq c)) (by decide) _ _) $$ [HC HS]; · isplitl [HC] <;> iassumption
  iintro ⟨HC, HS⟩
  ihave HC := (show core m K c (owesB c (owesR c offs) []) ⊢ core m K c (owesR c offs) from .rfl) $$ HC
  -- `b` in the exchange's type
  iapply (wp_get_b c (bBlk m c)) $$ Hb; iintro Hb
  iapply (wp_put_h c Y (hBlk m c)) $$ Hh; iintro Hh
  -- the block of offset 1
  iapply (wp_product m c (k := 1) _ (fun _ _ => rfl) (off_fwd c 0) rfl) $$ [HF Ha Hh]
  · isplitl [HF]; · iexact HF
    isplitl [Ha] <;> iassumption
  iintro Hs
  -- the barrier
  iapply (wp_meet m K c (ks := offs)) $$ [HC HM]; · isplitl [HC] <;> iassumption
  iintro ⟨HC, HD, Hz⟩
  iapply (wp_launch m K c (at_fwd _ c 1 (k0_dev8_eq c)) (by decide) _ [] rfl rfl rfl rfl) $$ [HC HD HY Hs]
  · isplitl [HC]; · iexact HC
    isplitl [HD]; · iexact HD
    isplitl [HY]; · iexact HY
    isplitr [Hs]; · unfold chain; iempintro
    iexact Hs
  iintro H
  -- the blocks of the other offsets
  iapply (wp_offset m K c (at_fwd _ c 2 (k0_dev9_eq c)) (by decide) _ _ (fun _ _ => rfl) (off_fwd c 1) rfl rfl rfl rfl rfl) $$ H; iintro H
  iapply (wp_offset m K c (at_fwd _ c 3 (k0_dev10_eq c)) (by decide) _ _ (fun _ _ => rfl) (off_fwd c 2) rfl rfl rfl rfl rfl) $$ H; iintro H
  iapply (wp_offset m K c (at_fwd _ c 4 (k0_dev11_eq c)) (by decide) _ _ (fun _ _ => rfl) (off_fwd c 3) rfl rfl rfl rfl rfl) $$ H; iintro H
  iapply (wp_offset m K c (at_fwd _ c 5 (k0_dev12_eq c)) (by decide) _ _ (fun _ _ => rfl) (off_fwd c 4) rfl rfl rfl rfl rfl) $$ H; iintro H
  iapply (wp_offset m K c (at_fwd _ c 6 (k0_dev13_eq c)) (by decide) _ _ (fun _ _ => rfl) (off_fwd c 5) rfl rfl rfl rfl rfl) $$ H; iintro H
  iapply (wp_offset m K c (at_fwd _ c 7 (k0_dev14_eq c)) (by decide) _ _ (fun _ _ => rfl) (off_fwd c 6) rfl rfl rfl rfl rfl) $$ H; iintro H
  unfold sending
  icases H with ⟨HC, -, -, -, Hf, Ha, Hh⟩
  -- the device's own block
  iapply (wp_rows m c (d := c) (k0_off2_eq c)) $$ Ha; iintro Ha
  iapply (wp_get_h c (hBlk m c)) $$ Hh; iintro Hh
  iapply (wp_put_o c Z (sumOf m c [])) $$ Ho; iintro Ho
  ihave HC := (show core m K c (owesR c []) ⊢ core m K c 0 from .rfl) $$ HC
  -- the received blocks
  ihave H := (show iprop(core m K c 0 ∗ chain (toLand c) offs ∗ chain (rDone c) [] ∗ held c cc0_stg2_0 (sumOf m c [])) ⊢ adding m K c offs [] from .rfl) $$ [HC HL Ho]
  · isplitl [HC]; · iexact HC
    isplitl [HL]; · iexact HL
    isplitr [Ho]; · unfold chain; iempintro
    iexact Ho
  iapply (wp_add m K c (k := 1) (by decide) _ _ (fun _ _ => rfl) rfl rfl rfl) $$ H; iintro H
  iapply (wp_add m K c (k := 2) (by decide) _ _ (fun _ _ => rfl) rfl rfl rfl) $$ H; iintro H
  iapply (wp_add m K c (k := 3) (by decide) _ _ (fun _ _ => rfl) rfl rfl rfl) $$ H; iintro H
  iapply (wp_add m K c (k := 4) (by decide) _ _ (fun _ _ => rfl) rfl rfl rfl) $$ H; iintro H
  iapply (wp_add m K c (k := 5) (by decide) _ _ (fun _ _ => rfl) rfl rfl rfl) $$ H; iintro H
  iapply (wp_add m K c (k := 6) (by decide) _ _ (fun _ _ => rfl) rfl rfl rfl) $$ H; iintro H
  iapply (wp_add m K c (k := 7) (by decide) _ _ (fun _ _ => rfl) rfl rfl rfl) $$ H; iintro H
  unfold adding
  icases H with ⟨HC, -, Hr, Ho⟩
  -- the copies' read-outs
  ihave H := (show iprop(core m K c 0 ∗ chain (flying c) offs ∗ chain (sDone c) []) ⊢ draining m K c offs [] from .rfl) $$ [HC Hf]
  · isplitl [HC]; · iexact HC
    isplitl [Hf]; · iexact Hf
    unfold chain; iempintro
  iapply (wp_drain m K c (k := 1) (by decide) _ _ rfl rfl) $$ H; iintro H
  iapply (wp_drain m K c (k := 2) (by decide) _ _ rfl rfl) $$ H; iintro H
  iapply (wp_drain m K c (k := 3) (by decide) _ _ rfl rfl) $$ H; iintro H
  iapply (wp_drain m K c (k := 4) (by decide) _ _ rfl rfl) $$ H; iintro H
  iapply (wp_drain m K c (k := 5) (by decide) _ _ rfl rfl) $$ H; iintro H
  iapply (wp_drain m K c (k := 6) (by decide) _ _ rfl rfl) $$ H; iintro H
  iapply (wp_drain m K c (k := 7) (by decide) _ _ rfl rfl) $$ H; iintro H
  unfold draining
  icases H with ⟨HC, -, Hs⟩
  rw [wp_ret]; imodintro
  iapply HP
  unfold ended
  isplitl [HC]; · iexact HC
  isplitl [Hz]; · iexact Hz
  isplitl [Hr]; · iexact Hr
  isplitl [Hs]; · iexact Hs
  isplitl [Hh]; · iexists _; iexact Hh
  isplitl [Ha]; · iexact Ha
  isplitl [Hb]; · iexact Hb
  iexact Ho

end Cert.KernelIdeal.Scatter

end
-- ==== Proof.Ideal.Region.lean ====
/-
  The body as the launch meets it: the resources dealt to a device sorted by use, the buffers split into slots and joined
  back, and the library's body obligation.
-/
module

public import proofs.«01_k».proof.Proof.Ideal.Body

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Products over the eight slots, as chains -/

omit [FloatOps F] in
/-- The product over all eight slots: slot 0's, and the chain of the seven used ones. -/
theorem slots_chain (P : Fin 8 → sProp 𝕄) : bigSep Finset.univ P = iprop(P 0 ∗ chain P offs) := by
  rw [chain_of P (0 :: offs) Finset.univ (by decide) (by decide), chain_cons]

omit [FloatOps F] in
/-- A chain of pairs is a pair of chains. -/
theorem chain_sep (P R : Fin 8 → sProp 𝕄) (ks : List (Fin 8)) : iprop(chain P ks ∗ chain R ks) ⊢ chain (fun k => iprop(P k ∗ R k)) ks := by
  induction ks with
  | nil => unfold chain; iintro ⟨-, -⟩; iempintro
  | cons k ks ih =>
    rw [chain_cons, chain_cons, chain_cons]
    iintro ⟨⟨Hp, Hps⟩, Hr, Hrs⟩
    isplitl [Hp Hr]; · isplitl [Hp] <;> iassumption
    iapply ih; isplitl [Hps] <;> iassumption

omit [FloatOps F] in
/-- A chain maps link by link. -/
theorem chain_mono {P R : Fin 8 → sProp 𝕄} : ∀ (ks : List (Fin 8)) (_ : ∀ k ∈ ks, P k ⊢ R k), chain P ks ⊢ chain R ks
  | [], _ => .rfl
  | k :: ks, h => BI.sep_mono (h k (List.mem_cons_self ..)) (chain_mono ks fun j hj => h j (List.mem_cons_of_mem _ hj))

omit [FloatOps F] in
/-- A product over a device's cells, by kind of cell. -/
theorem cells_split (P : Cell → sProp 𝕄) :
    bigSep Finset.univ P = iprop(P none ∗ (bigSep Finset.univ fun k : Fin 8 => P (some (false, k))) ∗ (bigSep Finset.univ fun k : Fin 8 => P (some (true, k)))) := by
  have h : (Finset.univ : Finset Cell) = insert none (Finset.univ.map ⟨some, Option.some_injective _⟩) := by decide
  rw [h, bigSep_insert (by decide), bigSep_map, bigSep_univ_prod, bigSep_univ_eq_bigSepL [false, true] (by decide) (by decide)]
  rfl

omit [FloatOps F] in
/-- The same over its scoped cells. -/
theorem scoped_split (P : Bool × Fin 8 → sProp 𝕄) :
    bigSep Finset.univ P = iprop((bigSep Finset.univ fun k : Fin 8 => P (false, k)) ∗ (bigSep Finset.univ fun k : Fin 8 => P (true, k))) := by
  rw [bigSep_univ_prod, bigSep_univ_eq_bigSepL [false, true] (by decide) (by decide)]
  rfl

/-! ## The exchange buffers, whole and by slots -/

/-- The two exchange buffers whole, at any contents. -/
def sWhole (c : Dev nD) : sProp 𝕄 := iprop(∃ f : Buf (Elt F) ((c : Thread nD τ).loc cc0_scratch1), (((c : Thread nD τ).loc cc0_scratch1) ↦{fullShare} f))
def rWhole (c : Dev nD) : sProp 𝕄 := iprop(∃ f : Buf (Elt F) ((c : Thread nD τ).loc cc0_scratch2), (((c : Thread nD τ).loc cc0_scratch2) ↦{fullShare} f))

/-- A slot's elements, as elements of the whole buffer. -/
abbrev sPart (c : Dev nD) (k : Fin 8) : Finset (Idx ((c : Thread nD τ).loc cc0_scratch1)) := (slotRect k).set
abbrev rPart (c : Dev nD) (k : Fin 8) : Finset (Idx ((c : Thread nD τ).loc cc0_scratch2)) := (slotRect k).set

omit [FloatOps F] in
theorem sAny_eq (c : Dev nD) (k : Fin 8) :
    (sAny c k : sProp 𝕄) = iprop(∃ f : Buf (Elt F) ((c : Thread nD τ).loc cc0_scratch1), ((c : Thread nD τ).loc cc0_scratch1) ↦[sPart c k]{fullShare} f) := by
  unfold sAny; rw [sSlot_set]
omit [FloatOps F] in
theorem rAny_eq (c : Dev nD) (k : Fin 8) :
    (rAny c k : sProp 𝕄) = iprop(∃ f : Buf (Elt F) ((c : Thread nD τ).loc cc0_scratch2), ((c : Thread nD τ).loc cc0_scratch2) ↦[rPart c k]{fullShare} f) := by
  unfold rAny; rw [rSlot_set]

omit [FloatOps F] in
/-- The send buffer held whole is held slot by slot, -/
theorem s_split (c : Dev nD) : (sWhole c : sProp 𝕄) ⊢ bigSep Finset.univ (sAny c) := by
  unfold sWhole
  iintro ⟨%f, H⟩
  ihave H := (Entails.of_eq (Ring.pointsTo_blocks (sPart c) slot_disjoint slot_cover f)) $$ H
  have h : (bigSep Finset.univ fun k : Fin 8 => iprop(((c : Thread nD τ).loc cc0_scratch1) ↦[sPart c k]{fullShare} f) : sProp 𝕄) ⊢ bigSep Finset.univ (sAny c) :=
    bigSep_mono fun k _ => show iprop(((c : Thread nD τ).loc cc0_scratch1) ↦[sPart c k]{fullShare} f) ⊢ sAny c k from by
      rw [sAny_eq]; iintro H; iexists f; iexact H
  iapply h; iexact H
omit [FloatOps F] in
/-- and back. -/
theorem s_join (c : Dev nD) : (bigSep Finset.univ (sAny c) : sProp 𝕄) ⊢ sWhole c := by
  rw [bigSep_congr fun k _ => sAny_eq c k]
  refine (Entails.of_eq (slots_chain _)).trans ?_
  unfold sWhole
  iintro ⟨⟨%f, H0⟩, H⟩
  iapply (Ring.pointsTo_blocks_join_exists (q := fullShare) (sPart c) slot_disjoint slot_cover f)
  iapply (Entails.of_eq (slots_chain _).symm)
  isplitl [H0]; · iexists f; iexact H0
  iexact H
omit [FloatOps F] in
/-- Likewise the receive buffer. -/
theorem r_split (c : Dev nD) : (rWhole c : sProp 𝕄) ⊢ bigSep Finset.univ (rAny c) := by
  unfold rWhole
  iintro ⟨%f, H⟩
  ihave H := (Entails.of_eq (Ring.pointsTo_blocks (rPart c) slot_disjoint slot_cover f)) $$ H
  have h : (bigSep Finset.univ fun k : Fin 8 => iprop(((c : Thread nD τ).loc cc0_scratch2) ↦[rPart c k]{fullShare} f) : sProp 𝕄) ⊢ bigSep Finset.univ (rAny c) :=
    bigSep_mono fun k _ => show iprop(((c : Thread nD τ).loc cc0_scratch2) ↦[rPart c k]{fullShare} f) ⊢ rAny c k from by
      rw [rAny_eq]; iintro H; iexists f; iexact H
  iapply h; iexact H
omit [FloatOps F] in
theorem r_join (c : Dev nD) : (bigSep Finset.univ (rAny c) : sProp 𝕄) ⊢ rWhole c := by
  rw [bigSep_congr fun k _ => rAny_eq c k]
  refine (Entails.of_eq (slots_chain _)).trans ?_
  unfold rWhole
  iintro ⟨⟨%f, H0⟩, H⟩
  iapply (Ring.pointsTo_blocks_join_exists (q := fullShare) (rPart c) slot_disjoint slot_cover f)
  iapply (Entails.of_eq (slots_chain _).symm)
  isplitl [H0]; · iexists f; iexact H0
  iexact H

/-! ## What a device starts and ends with -/

/-- What stays with one device: the tokens of the duties it pays, and its positions at its own cells. -/
def linear (c : Dev nD) : sProp 𝕄 :=
  iprop((bigSep Finset.univ fun k : Fin 8 => dutyTok EX (barCell (fwd c k)) 0 (-k))
    ∗ (bigSep Finset.univ fun k : Fin 8 => dutyTok EX (sendCell c k) 0 0)
    ∗ (bigSep Finset.univ fun k : Fin 8 => dutyTok EX (recvCell (fwd c k) k) 0 0)
    ∗ bigSep Finset.univ fun x : Cell => atPos EX (kcell (c, x)) 0 ∅ 0)

/-- What the launch hands a device: the shared records and its own share, the credit of its barrier and of its seven
    landings, and the levels. -/
def start (c : Dev nD) : sProp 𝕄 :=
  iprop((∃ K, records m K ∗ linear c) ∗ cred (tallyAt (barCell c) () 7) ∗ chain (fun k => cred (tallyAt (recvCell c k) () N)) offs ∗ levAts L lv)

/-- The exchange's `b`, at any contents. -/
def hWhole (c : Dev nD) : sProp 𝕄 := iprop(∃ f : Buf (Elt F) ((c : Thread nD τ).loc cc0_scratch0), (((c : Thread nD τ).loc cc0_scratch0) ↦{fullShare} f))

/-- Before the body: that and the three scratch buffers; -/
def Φ₀ (c : Dev nD) : sProp 𝕄 := iprop(start m c ∗ hWhole c ∗ sWhole c ∗ rWhole c)
/-- after it: the buffers, and every cell closed at zero. -/
def Φ₁ (c : Dev nD) : sProp 𝕄 :=
  iprop((hWhole c ∗ sWhole c ∗ rWhole c) ∗ semVal (barCell c) 0 ∗ (bigSep Finset.univ fun k : Fin 8 => semVal (sendCell c k) 0)
    ∗ bigSep Finset.univ fun k : Fin 8 => semVal (recvCell c k) 0)

/-- Slot 0 is used by no copy: its buffers' parts and its closed cells. -/
def idle (c : Dev nD) : sProp 𝕄 := iprop(rDone c 0 ∗ sDone c 0)

/-- Slot 0's cells have no duty at any round. -/
theorem idle_duties (c : Dev nD) (b : Bool) (r : ℕ) : (sched m).duties (kcell (c, some (b, 0))) r = ∅ := by
  rcases Nat.eq_zero_or_pos r with rfl | h
  · rw [sched_duties]; rfl
  · exact sched_later m _ r h

/-- So a device's position there closes the cell at once. -/
theorem idle_close (K : Dev nD × Cell → ℕ) (c : Dev nD) (b : Bool) :
    iprop(records m K ∗ atPos EX (kcell (c, some (b, 0))) 0 ∅ 0) ⊢ |={Set.univ}=> semVal (kcell (c, some (b, 0))) 0 := by
  iintro ⟨#HI, Hat⟩
  ihave #Hr := (records_at m K (c, some (b, 0))) $$ HI
  icases Hr with ⟨#Hinv, -⟩
  iapply (Rounds.cell_close EX (sched m) (Set.mem_univ (K (c, some (b, 0)))) (fun h => h) (R := 0) (fun r _ => idle_duties m c b r))
  isplitr; · iexact Hinv
  iexact Hat

/-- The slots handed out with the notices, in the notices' order: slot `-k` with notice `k`. -/
theorem r_reorder (c : Dev nD) : (bigSep Finset.univ (rAny c) : sProp 𝕄) = bigSep Finset.univ fun k : Fin 8 => rAny c (-k) :=
  bigSep_univ_equiv (Equiv.neg (Fin 8)) (rAny c)

/-- What the launch hands over, sorted by the step that uses it. -/
theorem sorted (c : Dev nD) :
    iprop(Φ₀ m c ∗ ∃ W, owes (c : Thread nD τ) (O₀ c) W)
      ⊢ |={Set.univ}=> iprop(∃ K, (core m K c (O₀ c) ∗ chain (toSignal c) offs ∗ toMeet c ∗ chain (toCopy c) offs ∗ chain (toLand c) offs ∗ chain (sAny c) offs
          ∗ hWhole c) ∗ idle c) := by
  unfold Φ₀ start linear
  iintro ⟨⟨⟨⟨%K, #HI, Htb, Hts, Htr, Hat⟩, Hcb, Hcr, #Hl⟩, Hh, Hs, Hr⟩, HO⟩
  ihave Htb := (Entails.of_eq (slots_chain _)) $$ Htb; icases Htb with ⟨-, Htb⟩
  ihave Hts := (Entails.of_eq (slots_chain _)) $$ Hts; icases Hts with ⟨-, Hts⟩
  ihave Htr := (Entails.of_eq (slots_chain _)) $$ Htr; icases Htr with ⟨-, Htr⟩
  ihave Hat := (Entails.of_eq (cells_split _)) $$ Hat; icases Hat with ⟨Hab, Has, Har⟩
  ihave Has := (Entails.of_eq (slots_chain _)) $$ Has; icases Has with ⟨Has0, Has⟩
  ihave Har := (Entails.of_eq (slots_chain _)) $$ Har; icases Har with ⟨Har0, Har⟩
  ihave Hs := (s_split c) $$ Hs
  ihave Hs := (Entails.of_eq (slots_chain _)) $$ Hs; icases Hs with ⟨Hs0, Hs⟩
  ihave Hr := (r_split c) $$ Hr
  ihave Hr := (Entails.of_eq (r_reorder c)) $$ Hr
  ihave Hr := (Entails.of_eq (slots_chain _)) $$ Hr; icases Hr with ⟨Hr0, Hr⟩
  imod (idle_close m K c false) $$ [Has0] with Hz0
  · isplitr; · iexact HI
    iexact Has0
  imod (idle_close m K c true) $$ [Har0] with Hv0
  · isplitr; · iexact HI
    iexact Har0
  imodintro
  iexists K
  isplitr [Hr0 Hs0 Hz0 Hv0]
  · isplitl [HO]
    · unfold core
      isplitr; · iexact HI
      isplitr; · iexact Hl
      iexact HO
    isplitl [Htb Hr]
    · iapply (chain_sep (fun k => dutyTok EX (barCell (fwd c k)) 0 (-k)) (fun k => rAny c (-k)) offs)
      isplitl [Htb] <;> iassumption
    isplitl [Hcb Hab]
    · unfold toMeet; isplitl [Hcb]; · iexact Hcb
      iexact Hab
    isplitl [Hts Htr Has]
    · iapply (chain_sep (fun k => dutyTok EX (sendCell c k) 0 0) (fun k => iprop(dutyTok EX (recvCell (fwd c k) k) 0 0 ∗ atPos EX (sendCell c k) 0 ∅ 0)) offs)
      isplitl [Hts]; · iexact Hts
      iapply (chain_sep (fun k => dutyTok EX (recvCell (fwd c k) k) 0 0) (fun k => atPos EX (sendCell c k) 0 ∅ 0) offs)
      isplitl [Htr]; · iexact Htr
      iexact Has
    isplitl [Hcr Har]
    · iapply (chain_sep (fun k => cred (tallyAt (recvCell c k) () N)) (fun k => atPos EX (recvCell c k) 0 ∅ 0) offs)
      isplitl [Hcr]; · iexact Hcr
      iexact Har
    isplitl [Hs]; · iexact Hs
    iexact Hh
  · unfold idle rDone sDone
    isplitl [Hr0 Hv0]
    · isplitl [Hr0]; · iexact Hr0
      iexact Hv0
    isplitl [Hs0]; · iexact Hs0
    iexact Hz0

/-- What the body ends with, gathered again. -/
theorem gathered (K : Dev nD × Cell → ℕ) (c : Dev nD) :
    iprop(ended m K c ∗ idle c)
      ⊢ iprop(Φ₁ c ∗ (∃ W, owes (c : Thread nD τ) (0 : CellTallies nD τ sig Unit) W) ∗ held c cc0_stg0_0 (aBlk m c) ∗ held c cc0_stg1_0 (bBlk m c)
          ∗ held c cc0_stg2_0 (sumOf m c offs)) := by
  unfold ended core idle
  iintro ⟨⟨⟨-, -, HO⟩, Hz, Hr, Hs, Hh, Ha, Hb, Ho⟩, Hr0, Hs0⟩
  ihave Hr := (Entails.of_eq (slots_chain (rDone c)).symm) $$ [Hr0 Hr]; · isplitl [Hr0] <;> iassumption
  ihave Hs := (Entails.of_eq (slots_chain (sDone c)).symm) $$ [Hs0 Hs]; · isplitl [Hs0] <;> iassumption
  ihave Hr := (show bigSep Finset.univ (rDone c) ⊢ _ from Entails.of_eq (bigSep_sep' Finset.univ (rAny c) fun k => semVal (recvCell c k) 0)) $$ Hr
  ihave Hs := (show bigSep Finset.univ (sDone c) ⊢ _ from Entails.of_eq (bigSep_sep' Finset.univ (sAny c) fun k => semVal (sendCell c k) 0)) $$ Hs
  icases Hr with ⟨Hr, Hv⟩
  icases Hs with ⟨Hs, Hu⟩
  ihave Hr := (r_join c) $$ Hr
  ihave Hs := (s_join c) $$ Hs
  unfold Φ₁
  isplitr [HO Ha Hb Ho]
  · isplitl [Hh Hs Hr]
    · isplitl [Hh]; · unfold hWhole held; iexact Hh
      isplitl [Hs] <;> iassumption
    isplitl [Hz]; · iexact Hz
    isplitl [Hu] <;> iassumption
  isplitl [HO]; · iexact HO
  isplitl [Ha]; · iexact Ha
  isplitl [Hb] <;> iassumption

/-! ## The body obligation -/

/-- The proof data of the one region: arrays as launched, the result's staging buffer left at the sum. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aBlk m c
    | ⟨1, _⟩ => bBlk m c
    | ⟨2, _⟩ => sumOf m c offs
  Φ t := match t with
    | ⟨0, _⟩ => Φ₀ m c
    | ⟨_ + 1, _⟩ => Φ₁ c
  q _ := fullShare
  owed t := match t with
    | ⟨0, _⟩ => O₀ c
    | ⟨_ + 1, _⟩ => 0

theorem fetch_a (t : Fin cfg0.N) : (cfg0.win (0 : Fin 3)).fetch t = true := by rw [fin_N0 t]; rfl
theorem fetch_b (t : Fin cfg0.N) : (cfg0.win (1 : Fin 3)).fetch t = true := by rw [fin_N0 t]; rfl

omit [FloatOps F] in
/-- A staging buffer owned at `X` is held at `X`. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns held; simp only [Memref.view_whole, View.read_whole, View.set_whole]
  apply BI.equiv_iff.mp
  constructor
  · show iprop(∃ f : Buf (Elt F) (((c : Dev nD) : Thread nD τ).loc b), ⌜f = X⌝ ∗ (((c : Thread nD τ).loc b) ↦{fullShare} f)) ⊢ _
    iintro ⟨%f, %hf, H⟩; subst hf; iexact H
  · show _ ⊢ iprop(∃ f : Buf (Elt F) (((c : Dev nD) : Thread nD τ).loc b), ⌜f = X⌝ ∗ (((c : Thread nD τ).loc b) ↦{fullShare} f))
    iintro H; iexists X
    isplitr; · (ipureintro; rfl)
    iexact H

/-- The region's resources at its one point, before -/
def regionPre (c : Dev nD) : sProp 𝕄 :=
  iprop(Φ₀ m c ∗ (dats m ρ 0 c).owesAt () t0_0.castSucc
    ∗ (∃ d, held c cc0_stg0_0 ((dats m ρ 0 c).before (0 : Fin 3) t0_0 d))
    ∗ (∃ d, held c cc0_stg1_0 ((dats m ρ 0 c).before (1 : Fin 3) t0_0 d))
    ∗ (∃ d, held c cc0_stg2_0 ((dats m ρ 0 c).before (2 : Fin 3) t0_0 d)))
/-- and after. -/
def regionPost (c : Dev nD) : sProp 𝕄 :=
  iprop(Φ₁ c ∗ (dats m ρ 0 c).owesAt () t0_0.succ ∗ held c cc0_stg0_0 (aBlk m c) ∗ held c cc0_stg1_0 (bBlk m c) ∗ held c cc0_stg2_0 (sumOf m c offs))

set_option maxRecDepth 8000 in
/-- The body keeps the region's promise on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_held]
  show regionPre m ρ c ⊢ wp frame (wpE (defs₀ (F := F)) 𝒱₀ (c : Thread nD τ) none) Set.univ
    (cc0_body aM (Memref.isWhole_whole _) bM (Memref.isWhole_whole _) oM (Memref.isWhole_whole _) hM (Memref.isWhole_whole _)
      sM (Memref.isWhole_whole _) rM (Memref.isWhole_whole _) cc0_scratch3 cc0_scratch4) (fun _ => regionPost m ρ c)
  unfold regionPre
  iintro ⟨HΦ, HO, ⟨%d0, Ha⟩, ⟨%d1, Hb⟩, ⟨%d2, Ho⟩⟩
  rw [show (dats m ρ 0 c).before (0 : Fin 3) t0_0 d0 = aBlk m c from by unfold Dat.before; rw [if_pos (fetch_a t0_0)]; rfl,
    show (dats m ρ 0 c).before (1 : Fin 3) t0_0 d1 = bBlk m c from by unfold Dat.before; rw [if_pos (fetch_b t0_0)]; rfl]
  unfold Dat.owesAt Pipeline.owesWithin
  icases HO with ⟨%W, -, HO⟩
  rw [show (dats m ρ 0 c).owed t0_0.castSucc = O₀ c from rfl]
  imod (sorted m c) $$ [HΦ HO] with ⟨%K, ⟨HC, HS, HM, HY, HL, HF, Hh⟩, Hi⟩
  · isplitl [HΦ]; · iexact HΦ
    iexists W; iexact HO
  iapply (body_runs m K c fun _ => regionPost m ρ c)
  isplitr [Hi]
  · unfold begun
    isplitl [HC]; · iexact HC
    isplitl [HS]; · iexact HS
    isplitl [HM]; · iexact HM
    isplitl [HY]; · iexact HY
    isplitl [HL]; · iexact HL
    isplitl [HF]; · iexact HF
    isplitl [Hh]; · unfold hWhole held; iexact Hh
    isplitl [Ha]; · iexact Ha
    isplitl [Hb]; · iexact Hb
    iexists _; iexact Ho
  iintro HE
  ihave HE := (gathered m K c) $$ [HE Hi]; · isplitl [HE] <;> iassumption
  icases HE with ⟨HΦ, ⟨%W', HO⟩, Hout⟩
  unfold regionPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  iexact Hout

end Cert.KernelIdeal.Scatter

end
-- ==== Proof.Ideal.Run.lean ====
/-
  The launch: the rounds' record dealt to the devices, the credit each device starts with, and the run of @main.
-/
module

public import proofs.«01_k».proof.Proof.Ideal.Region
public import Idealize.ShloMosaic.Lib.Pipeline.CollectiveSegs

@[expose] public section

noncomputable section

namespace Cert.KernelIdeal.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The record of rounds, dealt -/

/-- Every cell of every device. -/
def allCells : Finset (GSem nD τ sig) := Finset.univ.map ⟨kcell, kcell_inj⟩

/-- The minted duty tokens of a device's cells, one per kind of cell and slot: the barrier's notice of that offset, or the
    single duty of the slot's send or receive cell. -/
abbrev tokOf : Dev nD × (Fin 3 × Fin 8) → GSem nD τ sig × ℕ × Fin 8
  | (c, 0, k) => (barCell c, 0, k)
  | (c, 1, k) => (sendCell c k, 0, 0)
  | (c, 2, k) => (recvCell c k, 0, 0)

theorem tokOf_inj : Function.Injective tokOf := by
  have cell : ∀ x y : Dev nD × Cell, kcell x = kcell y → x = y := fun x y h => kcell_inj h
  rintro ⟨c, j, k⟩ ⟨c', j', k'⟩ h
  have h1 := congrArg Prod.fst h
  have h2 := congrArg (fun x => x.2.2) h
  fin_cases j <;> fin_cases j'
  · have e := cell (c, none) (c', none) h1; cases e; have e2 : k = k' := h2; rw [e2]
  · exact absurd (cell (c, none) (c', some (false, k')) h1) (fun e => by cases e)
  · exact absurd (cell (c, none) (c', some (true, k')) h1) (fun e => by cases e)
  · exact absurd (cell (c, some (false, k)) (c', none) h1) (fun e => by cases e)
  · have e := cell (c, some (false, k)) (c', some (false, k')) h1; cases e; rfl
  · exact absurd (cell (c, some (false, k)) (c', some (true, k')) h1) (fun e => by cases e)
  · exact absurd (cell (c, some (true, k)) (c', none) h1) (fun e => by cases e)
  · exact absurd (cell (c, some (true, k)) (c', some (false, k')) h1) (fun e => by cases e)
  · have e := cell (c, some (true, k)) (c', some (true, k')) h1; cases e; rfl
def allToks : Finset (GSem nD τ sig × ℕ × Fin 8) := Finset.univ.map ⟨tokOf, tokOf_inj⟩

/-- The launch element: the pipeline's record and the exchange's. -/
def u₀ : UU :=
  (initOf (Pipeline.cells cfgs cellOf_inj) (Pipeline.launchToks cfgs cellOf_inj), initOf allCells allToks)

/-- The duty tokens of one device's cells. -/
def toks (c : Dev nD) : sProp 𝕄 :=
  iprop((bigSep Finset.univ fun k : Fin 8 => dutyTok EX (barCell c) 0 k) ∗ (bigSep Finset.univ fun k : Fin 8 => dutyTok EX (sendCell c k) 0 0)
    ∗ bigSep Finset.univ fun k : Fin 8 => dutyTok EX (recvCell c k) 0 0)

/-- What the launch element gives one device: its cells' round states, its positions there, and their tokens. -/
def G (c : Dev nD) : sProp 𝕄 :=
  iprop((bigSep Finset.univ fun x : Cell => roundState EX (sched m) (kcell (c, x)) 0)
    ∗ (bigSep Finset.univ fun x : Cell => atPos EX (kcell (c, x)) 0 ∅ 0) ∗ (bigSep Finset.univ fun x : Cell => reached EX (kcell (c, x)) 0) ∗ toks c)

/-- What all devices together make of it. -/
def G' (c : Dev nD) : sProp 𝕄 := iprop(∃ K, records m K ∗ linear c)

theorem fund : BI.own (EX (initOf allCells allToks)) ⊢ (|==> bigSep Finset.univ (G m) : sProp 𝕄) := by
  have hX (Φ : GSem nD τ sig → sProp 𝕄) : bigSep allCells Φ = bigSep Finset.univ fun c : Dev nD => bigSep Finset.univ fun x : Cell => Φ (kcell (c, x)) := by
    unfold allCells; rw [bigSep_map, bigSep_univ_prod]; rfl
  have hT : bigSep allToks (fun x => (dutyTok EX x.1 x.2.1 x.2.2 : sProp 𝕄)) = bigSep Finset.univ fun c : Dev nD => toks c := by
    unfold allToks; rw [bigSep_map, bigSep_univ_prod]
    refine bigSep_congr fun c _ => ?_
    unfold toks; rw [bigSep_univ_prod, bigSep_univ_eq_bigSepL [0, 1, 2] (by decide) (by decide)]; rfl
  iintro HX
  imod (Rounds.fund EX (sched m) allCells allToks) $$ HX with ⟨Hst, Hr, Hat, Htok⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat]; · iexact Hat
  isplitl [Hr] <;> iassumption

omit [FloatOps F] in
/-- The barrier's semaphore is the launch's one unscoped semaphore. -/
theorem unscoped_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- The scoped ones are the sixteen transfer semaphores. -/
theorem scoped_eq (c : Dev nD) : (Pipeline.ownSems0 (Ix := Unit) (Name := ℕ) (U := UU) (Lvl := ℕ) (Val := Elt F) (τ := τ) osem c : sProp 𝕄)
    = iprop((bigSep Finset.univ fun k : Fin 8 => semVal (sendCell c k) 0) ∗ bigSep Finset.univ fun k : Fin 8 => semVal (recvCell c k) 0) := by
  unfold Pipeline.ownSems0; rw [scoped_split]

omit [FloatOps F] in
/-- Together they are the device's cells, all at zero. -/
theorem sems_cells (c : Dev nD) :
    iprop(Pipeline.ownSems0 (Ix := Unit) (Name := ℕ) (U := UU) (Lvl := ℕ) (Val := Elt F) (τ := τ) osem c ∗ unscopedSems0 c)
      ⊢ (bigSep Finset.univ fun x : Cell => semVal (kcell (c, x)) 0 : sProp 𝕄) := by
  rw [scoped_eq, unscoped_eq, cells_split]
  iintro ⟨H, HB⟩
  isplitl [HB]; · iexact HB
  iexact H

/-- One device's cells made into invariants. -/
theorem cells_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv EX (sched m) κ (kcell (c, x))))
          ∗ (bigSep Finset.univ fun x : Cell => atPos EX (kcell (c, x)) 0 ∅ 0) ∗ (bigSep Finset.univ fun x : Cell => reached EX (kcell (c, x)) 0) ∗ toks c) := by
  unfold G
  iintro ⟨Hos, Hus, Hst, Hrest⟩
  ihave Hv := (sems_cells (F := F) c) $$ [Hos Hus]
  · isplitl [Hos] <;> iassumption
  imod (show iprop((bigSep Finset.univ fun x : Cell => semVal (kcell (c, x)) 0) ∗ bigSep Finset.univ fun x : Cell => roundState EX (sched m) (kcell (c, x)) 0)
      ⊢ (|={Set.univ}=> bigSep Finset.univ fun x : Cell => iprop(∃ κ : ℕ, cellInv EX (sched m) κ (kcell (c, x))) : sProp 𝕄) from by
        rw [← bigSep_sep']
        exact (bigSep_mono fun x _ => (Rounds.body_intro EX (sched m) (kcell (c, x))).trans inv_alloc).trans (bigSep_fupd _ _)) $$ [Hv Hst] with Hinv
  · isplitl [Hv] <;> iassumption
  imodintro
  isplitl [Hinv]; · iexact Hinv
  iexact Hrest

/-- A notice's token goes from the device that receives it, at offset `-k`, to the one that gives it, at offset `k`, -/
def noticeSwap : Dev nD × Fin 8 ≃ Dev nD × Fin 8 where
  toFun x := (fwd x.1 x.2, -x.2)
  invFun x := (fwd x.1 x.2, -x.2)
  left_inv x := Prod.ext (fwd_fwd_neg x.1 x.2) (neg_neg x.2)
  right_inv x := Prod.ext (fwd_fwd_neg x.1 x.2) (neg_neg x.2)
/-- and a landing's from the device it lands on to the device that sends it. -/
def landShift : Dev nD × Fin 8 ≃ Dev nD × Fin 8 where
  toFun x := (fwd x.1 x.2, x.2)
  invFun x := (bwd x.1 x.2, x.2)
  left_inv x := Prod.ext (bwd_fwd x.1 x.2) rfl
  right_inv x := Prod.ext (fwd_bwd x.1 x.2) rfl

omit [FloatOps F] in
/-- The tokens dealt to the devices that pay the duties. -/
theorem toks_around :
    (bigSep Finset.univ fun c : Dev nD => (toks c : sProp 𝕄))
      ⊢ iprop((bigSep Finset.univ fun c : Dev nD => bigSep Finset.univ fun k : Fin 8 => dutyTok EX (barCell (fwd c k)) 0 (-k))
          ∗ (bigSep Finset.univ fun c : Dev nD => bigSep Finset.univ fun k : Fin 8 => dutyTok EX (sendCell c k) 0 0)
          ∗ bigSep Finset.univ fun c : Dev nD => bigSep Finset.univ fun k : Fin 8 => dutyTok EX (recvCell (fwd c k) k) 0 0) := by
  unfold toks
  rw [bigSep_sep', bigSep_sep',
    ← bigSep_univ_prod (fun x : Dev nD × Fin 8 => (dutyTok EX (barCell x.1) 0 x.2 : sProp 𝕄)),
    ← bigSep_univ_prod (fun x : Dev nD × Fin 8 => (dutyTok EX (recvCell x.1 x.2) 0 0 : sProp 𝕄)),
    bigSep_univ_equiv noticeSwap (fun x : Dev nD × Fin 8 => (dutyTok EX (barCell x.1) 0 x.2 : sProp 𝕄)),
    bigSep_univ_equiv landShift (fun x : Dev nD × Fin 8 => (dutyTok EX (recvCell x.1 x.2) 0 0 : sProp 𝕄)),
    bigSep_univ_prod, bigSep_univ_prod]
  exact .rfl

omit [FloatOps F] in
/-- A persistent fact serves every member of a product. -/
theorem bigSep_frame {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' cells and tokens, regrouped: the records shared, the rest by device. -/
theorem regroup :
    (bigSep Finset.univ fun c : Dev nD => iprop((bigSep Finset.univ fun x : Cell => iprop(∃ κ : ℕ, cellInv EX (sched m) κ (kcell (c, x))))
          ∗ (bigSep Finset.univ fun x : Cell => atPos EX (kcell (c, x)) 0 ∅ 0) ∗ (bigSep Finset.univ fun x : Cell => reached EX (kcell (c, x)) 0) ∗ toks c) : sProp 𝕄)
      ⊢ bigSep Finset.univ (G' m) := by
  rw [bigSep_sep', bigSep_sep', bigSep_sep', ← bigSep_univ_prod (fun x : Dev nD × Cell => iprop(∃ κ : ℕ, cellInv EX (sched m) κ (kcell x))),
    ← bigSep_univ_prod (fun x : Dev nD × Cell => (reached EX (kcell x) 0 : sProp 𝕄))]
  iintro ⟨HI, Hat, #HR, Htok⟩
  ihave HK := (BI.bigSep_exists_pi Finset.univ (fun (x : Dev nD × Cell) (κ : ℕ) => (cellInv EX (sched m) κ (kcell x) : sProp 𝕄))) $$ HI
  icases HK with ⟨%K, #HI⟩
  ihave Htk := (toks_around (F := F)) $$ Htok
  icases Htk with ⟨Hb, Hs, Hr⟩
  iapply (bigSep_frame (R := records m K) (Φ := fun c => linear c) (Ψ := G' m) fun c _ => show iprop(records m K ∗ linear c) ⊢ G' m c from by
    unfold G'; iintro H; iexists K; iexact H)
  isplitr
  · unfold records; rw [bigSep_sep']
    isplitr; · iexact HI
    iexact HR
  · unfold linear; rw [bigSep_sep', bigSep_sep', bigSep_sep']
    isplitl [Hb]; · iexact Hb
    isplitl [Hs]; · iexact Hs
    isplitl [Hr] <;> iassumption

/-- The launch's one step over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_alloc m c).trans (bigSep_fupd _ _)).trans (BI.fupd_mono (regroup m))

/-! ## The launch credit -/

omit [FloatOps F] in
theorem owesR_at (d : Dev nD) (g : GSem nD τ sig) (ks : List (Fin 8)) :
    owesR d ks g () = (ks.map fun k => if g = recvCell (fwd d k) k then N else 0).sum := by
  induction ks with
  | nil => rfl
  | cons k ks ih =>
    unfold owesR
    rw [Pi.add_apply, Finsupp.add_apply, tallyAt_apply, ih, List.map_cons, List.sum_cons, Nat.add_comm]
    simp only [and_true]
omit [FloatOps F] in
theorem owesB_at (d : Dev nD) (R : CellTallies nD τ sig Unit) (g : GSem nD τ sig) (ks : List (Fin 8)) :
    owesB d R ks g () = (ks.map fun k => if g = barCell (fwd d k) then 1 else 0).sum + R g () := by
  induction ks with
  | nil => exact (Nat.zero_add _).symm
  | cons k ks ih =>
    unfold owesB
    rw [Pi.add_apply, Finsupp.add_apply, tallyAt_apply, ih, List.map_cons, List.sum_cons]
    simp only [and_true]; omega

omit [FloatOps F] in
theorem bar_iff (c d : Dev nD) : barCell c = barCell d ↔ c = d :=
  ⟨fun h => congrArg Prod.fst (kcell_inj (a₁ := (c, none)) (a₂ := (d, none)) h), fun h => h ▸ rfl⟩
omit [FloatOps F] in
theorem recv_iff (c d : Dev nD) (j k : Fin 8) : recvCell c j = recvCell d k ↔ c = d ∧ j = k :=
  ⟨fun h => by have e := kcell_inj (a₁ := (c, some (true, j))) (a₂ := (d, some (true, k))) h; cases e; exact ⟨rfl, rfl⟩,
    fun h => by rw [h.1, h.2]⟩
omit [FloatOps F] in
theorem bar_ne_recv (c d : Dev nD) (k : Fin 8) : barCell c ≠ recvCell d k := fun h => by
  have e := kcell_inj (a₁ := (c, none)) (a₂ := (d, some (true, k))) h; cases e

omit [FloatOps F] in
/-- What device `d` owes device `c`'s barrier: a unit for each offset that leads there. -/
theorem owed_bar (d c : Dev nD) : O₀ d (barCell c) () = (offs.map fun k => if c = fwd d k then 1 else 0).sum := by
  unfold O₀
  rw [owesB_at, owesR_at]
  simp only [bar_iff, bar_ne_recv, if_false, List.map_const', List.sum_replicate, smul_zero, Nat.add_zero]
omit [FloatOps F] in
/-- What it owes the landing in slot `j`: a block if offset `j` leads there. -/
theorem owed_recv (d c : Dev nD) (j : Fin 8) : O₀ d (recvCell c j) () = N * (offs.map fun k => if c = fwd d k ∧ j = k then 1 else 0).sum := by
  unfold O₀
  rw [owesB_at, owesR_at, ← List.sum_map_mul_left]
  simp only [recv_iff, fun a b k => (bar_ne_recv a b k).symm, ne_eq, if_false, List.map_const', List.sum_replicate, smul_zero, Nat.zero_add, mul_ite, mul_one, mul_zero]

theorem seven_notices (c : Dev nD) : ∑ d : Dev nD, (offs.map fun k => if c = fwd d k then 1 else 0).sum = 7 := by revert c; decide
theorem one_landing (c : Dev nD) (j : Fin 8) (hj : j ∈ offs) : ∑ d : Dev nD, (offs.map fun k => if c = fwd d k ∧ j = k then 1 else 0).sum = 1 := by
  revert c j; decide

omit [FloatOps F] in
theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, seven_notices]
omit [FloatOps F] in
theorem launch_recv (c : Dev nD) (j : Fin 8) (hj : j ∈ offs) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, ← Finset.mul_sum, one_landing c j hj, Nat.mul_one]

omit [FloatOps F] in
/-- So each device starts with the credit of seven notices and of a landing in each used slot. -/
theorem creds (c : Dev nD) :
    (Pipeline.launchCred O₀ c : sProp 𝕄) ⊢ iprop(cred (tallyAt (barCell c) () 7) ∗ chain (fun k => cred (tallyAt (recvCell c k) () N)) offs) := by
  unfold Pipeline.launchCred
  have hsub : (bigSep Finset.univ fun sm : SemLoc sig => (cred (tallyOn ((c.tc : Thread nD τ), sm) (launchCredit (Pipeline.owing O₀) 0 ((c.tc : Thread nD τ), sm))) : sProp 𝕄))
      ⊢ bigSep ((Finset.univ : Finset Cell).map ⟨csem, csem_inj⟩) fun sm : SemLoc sig =>
          (cred (tallyOn ((c.tc : Thread nD τ), sm) (launchCredit (Pipeline.owing O₀) 0 ((c.tc : Thread nD τ), sm))) : sProp 𝕄) :=
    bigSep_subset (Finset.subset_univ _)
  refine hsub.trans ?_
  rw [bigSep_map, cells_split]
  iintro ⟨Hb, -, Hr⟩
  ihave Hr := (Entails.of_eq (slots_chain _)) $$ Hr
  icases Hr with ⟨-, Hr⟩
  isplitl [Hb]
  · rw [← launch_bar]; iexact Hb
  · iapply (chain_mono (P := fun k => cred (tallyOn (recvCell c k) (launchCredit (Pipeline.owing O₀) 0 (recvCell c k)))) offs fun k hk => Entails.of_eq (by rw [launch_recv c k hk]))
    iexact Hr

/-! ## The launch theorem's side conditions -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ hWhole sWhole rWhole
  iintro ⟨Hs, -, H⟩
  isplitl [Hs]; · iexact Hs
  iexact H

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, scoped_eq, unscoped_eq]
  unfold Φ₁ hWhole sWhole rWhole
  iintro ⟨H, HB, HO⟩
  isplitl [HB]; · iexact HB
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ## The run -/

/-- An array's contents after the run. -/
def finalA (c : Dev nD) (w : Fin cfg0.W) : Buf (Elt F) ((cfg0.win w).arr.view.loc (c : Thread nD τ)) := (dats m ρ 0 c).arrAt w cfg0.N

set_option maxRecDepth 8000 in
/-- From any memory with zero counters every weakly fair execution of @main on the eight devices ends, with each device's
    three arrays at the computed contents and every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- The operands hold what they held, -/
theorem final_a (c : Dev nD) : finalA m ρ c (0 : Fin 3) = m ((c : Thread nD τ).loc main_arg0) :=
  (dats (F := F) m ρ 0 c).arrAt_in (0 : Fin 3) rfl _
theorem final_b (c : Dev nD) : finalA m ρ c (1 : Fin 3) = m ((c : Thread nD τ).loc main_arg1) :=
  (dats (F := F) m ρ 0 c).arrAt_in (1 : Fin 3) rfl _

end Cert.KernelIdeal.Scatter

end
-- ==== Proof.Ideal.Frames.lean ====
/-
  The three frames. The run proved in Run.lean holds for any floats. Read at the exact floats it is the ideal program's frame;
  read at bit patterns it is the kernel's, because no operation was rewritten and the two printed programs are the same text.
-/
module

public import proofs.«01_k».proof.Proof.Ideal.Run
public import proofs.«01_k».proof.Proof.Gen.Kernel
public import proofs.«01_k».proof.Proof.Gen.ReferenceIdeal.Run

@[expose] public section

noncomputable section

namespace Cert.Frames

open Idealize.ShloMosaic Idealize.ShloMosaic.TcCoe Idealize.SL.Sem

/-- For floats of one kind: from any memory, with all counters at zero, the ideal program's text ends without fault, with its
    two arguments unchanged on every device and every counter at zero again. -/
def Quiet (F : FTy → Type) [FloatOps F] [KernelIdeal.Facts] : Prop :=
  ∀ (m : (ℓ : Loc KernelIdeal.nD KernelIdeal.τ KernelIdeal.sig) → Buf (Elt F) ℓ) (g : Dev KernelIdeal.nD → PrngReg), True →
    θ_run (KernelIdeal.defs (F := F)) (onTc (τ := KernelIdeal.τ) (KernelIdeal.main (F := F))) ⟨m, fun _ => 0, g⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1))
      ∧ r.2.sem = fun _ => 0)

/-- It does, for any floats. -/
theorem quiet (F : FTy → Type) [FloatOps F] : Quiet F := fun m g _ =>
  (θ_run (KernelIdeal.defs (F := F)) _ _).mono
    (fun r (h : _ ∧ r.2.sem = fun _ => 0) => (⟨fun c =>
      ⟨(h.1 c 0).trans (KernelIdeal.Scatter.final_a m g c), (h.1 c 1).trans (KernelIdeal.Scatter.final_b m g c)⟩, h.2⟩ : _ ∧ _))
    (KernelIdeal.Scatter.run_main (F := F) m g)

/-- What is claimed of the kernel at bit patterns is the same statement about the ideal program's text read at bit patterns. -/
theorem kernel_text : quiescent_Kernel (hKernel := Kernel.Gen.facts) = @Quiet Bits _ KernelIdeal.Gen.facts := by sl_kernel_rfl

/-- The kernel's frame. -/
theorem kernel : quiescent_Kernel (hKernel := Kernel.Gen.facts) := kernel_text.mpr (quiet Bits)

/-- The ideal program's frame. -/
theorem kernelIdeal : quiescent_KernelIdeal (hKernelIdeal := KernelIdeal.Gen.facts) := quiet Ideal

/-- The reference's frame: its run is one host operation, and it has no semaphore. -/
theorem referenceIdeal : quiescent_ReferenceIdeal (hReferenceIdeal := ReferenceIdeal.Gen.facts) := fun m g _ =>
  (θ_run (ReferenceIdeal.defs (F := Ideal)) _ _).mono
    (fun r h => (⟨fun c => (h c).2, sem_eq_zero_of_no_sems (by decide) r.2⟩ : _ ∧ _))
    (ReferenceIdeal.Value.run (F := Ideal) m g)

end Cert.Frames

end
-- ==== Proof.Ideal.Value.lean ====
/-
  What the kernel computes at the exact floats. Over the extended reals the two format changes are the identity and the
  matrix unit is the plain sum, so device `c`'s result is its own product plus seven received ones, one from every other
  device: together the contraction over all 3072 columns, cut in eight.
-/
module

public import proofs.«01_k».proof.Proof.Ideal.Run
public import Idealize.ShloMosaic.Lib.MatmulPlain
public import Idealize.ShloMosaic.Lib.StackMember
public import Idealize.ShloMosaic.Lib.Layout
public import Idealize.ShloMosaic.Lib.Pipeline.ValueKit

@[expose] public section

noncomputable section

namespace Cert.KernelIdeal.Scatter

open Cert.KernelIdeal Cert.KernelIdeal.Gen

open Idealize.ShloMosaic hiding ix2 eq_ix2 addf_apply extf_apply truncf_apply constant_apply
open Idealize.ShloMosaic.TcCoe
open Idealize.SL.Sem
open Idealize.ShloMosaic.Pipeline (Dat Cfg Window)
open Idealize.ShloMosaic.ValueIdx

/-! ## Buffers and arrays, for any floats -/

section Anywhere

variable {F : FTy → Type} [FloatOps F]
variable (m : (ℓ : Loc nD τ sig) → Buf (Elt F) ℓ) (ρ : Dev nD → PrngReg)

/-- The staged block of `a` is the device's whole part of `a`, -/
theorem aBlk_eq (c : Dev nD) : aBlk m c = m ((c : Thread nD τ).loc main_arg0) := by
  funext j
  refine congrArg (m ((c : Thread nD τ).loc main_arg0)) (funext fun x => Fin.ext ?_)
  exact (cfg0.win (0 : Fin 3)).rect_emb_val_of_index_zero t0_0 x (by revert x; decide) j

/-- and the staged block of `b` its whole part of `b`. -/
theorem bBlk_eq (c : Dev nD) : bBlk m c = m ((c : Thread nD τ).loc main_arg1) := by
  funext j
  refine congrArg (m ((c : Thread nD τ).loc main_arg1)) (funext fun x => Fin.ext ?_)
  exact (cfg0.win (1 : Fin 3)).rect_emb_val_of_index_zero t0_0 x (by revert x; decide) j

/-- Row `r` of the rows kept for device `d` is row `96 d + r` of the device's part of `a`. -/
theorem rows_apply (c d : Dev nD) (r : Fin 96) (k : Fin 384) (h : d.val * 96 + r.val < 768) :
    rows m c d (ix2 r k) = m ((c : Thread nD τ).loc main_arg0) (ix2 (⟨d.val * 96 + r.val, h⟩ : Fin 768) k) := by
  unfold rows
  rw [aBlk_eq]
  refine congrArg (m ((c : Thread nD τ).loc main_arg0)) (funext fun x => Fin.ext ?_)
  match x with
  | ⟨0, _⟩ => show 96 * d.val + 1 * r.val = d.val * 96 + r.val; omega
  | ⟨1, _⟩ => show 0 + 1 * k.val = k.val; omega

/-- The result's array ends holding the sum that the body left in its staging buffer. -/
theorem final_o (c : Dev nD) : finalA m ρ c (2 : Fin 3) = sumOf m c offs := by
  have h : (cfg0.win (2 : Fin 3)).WholeAt t0_0 := by
    refine ⟨rfl, fun t _ => fin_N0 t, fun x => ?_⟩
    revert x; decide
  exact (dats (F := F) m ρ 0 c).arrAt_eq_of_after_last (2 : Fin 3) t0_0 h _ (fun j => rfl)

end Anywhere

/-! ## At the exact floats -/

variable (m : (ℓ : Loc nD τ sig) → Buf (Elt Ideal) ℓ) (ρ : Dev nD → PrngReg)

/-- What device `d` contributes to row `r`, column `q` of device `c`'s block of the result: row `96 c + r` of its part of
    `a` times column `q` of its part of `b`. -/
def term (c d : Dev nD) (r : Fin 96) (q : Fin 768) : Ideal .f32 :=
  ∑ k : Fin 384, rows m d c (ix2 r k) * m ((d : Thread nD τ).loc main_arg1) (ix2 k q)

/-- The device's own product, at an index. -/
theorem own_apply (c : Dev nD) (r : Fin 96) (q : Fin 768) : own m c (ix2 r q) = term m c c r q := by
  have e : dot_S96x384_S384x768_S96x768_1_0_0_1_n_n = DotDims.plain 96 384 768 := rfl
  unfold own k0_pay10 hBlk k0_pay1
  simp only [matmul, shapeCast_self, e, bBlk_eq]
  rw [Ideal.matmul_plain_apply]
  rw [constant_apply, Ideal.ofBits_zero_f32, zero_add]
  rfl

/-- One received block added: the sender's contribution, at an index. -/
theorem addTo_apply (x : FVec Ideal S96x768 .f32) (c d : Dev nD) (r : Fin 96) (q : Fin 768) :
    addTo x (part m d c) (ix2 r q) = x (ix2 r q) + term m c d r q := by
  have e : dot_S96x384_S384x768_S96x768_1_0_0_1_n_n = DotDims.plain 96 384 768 := rfl
  unfold addTo part k0_pay11 k0_pay2 hBlk k0_pay1
  simp only [matmul, shapeCast_self, shapeCast_shapeCast, e, bBlk_eq]
  rw [addf_apply, extf_apply, truncf_apply, Ideal.matmul_plain_apply]
  rw [constant_apply, Ideal.ofBits_zero_f32, zero_add]
  rfl

/-- Adding the blocks of a list of offsets in turn adds their contributions. -/
theorem foldl_apply (c : Dev nD) (ks : List (Fin 8)) (x : FVec Ideal S96x768 .f32) (r : Fin 96) (q : Fin 768) :
    ks.foldl (fun x k => addTo x (part m (bwd c k) c)) x (ix2 r q) = x (ix2 r q) + (ks.map fun k => term m c (bwd c k) r q).sum := by
  induction ks generalizing x with
  | nil => simp
  | cons k ks ih => rw [List.foldl_cons, ih, addTo_apply, List.map_cons, List.sum_cons, add_assoc]

/-- So the result is the sum of the contributions of all eight devices. -/
theorem sumOf_apply (c : Dev nD) (r : Fin 96) (q : Fin 768) :
    sumOf m c offs (ix2 r q) = ∑ d : Dev nD, term m c d r q := by
  unfold sumOf
  rw [foldl_apply, own_apply, ← Equiv.sum_comp (Equiv.subLeft c) (fun d => term m c d r q)]
  refine Eq.trans ?_ (Fin.sum_univ_succ _).symm
  have h : (c : Fin 8) - 0 = c := sub_zero _
  show _ = term m c (c - 0) r q + _
  rw [h]
  refine congrArg (term m c c r q + ·) ?_
  rw [← List.sum_ofFn]
  rfl

/-- The whole product at the exact floats, at an index, as the sum over the eight stretches of 384 columns. -/
theorem product_apply (A : FVec Ideal ⟨2, ![768, 3072]⟩ .f32) (B : FVec Ideal ⟨2, ![3072, 768]⟩ .f32) (i : Fin 768) (q : Fin 768) :
    Host.dotGeneral (DotDims.plain 768 3072 768) none A B (ix2 i q)
      = ∑ d : Fin 8, ∑ k : Fin 384, A (ix2 i ⟨d.val * 384 + k.val, by omega⟩) * B (ix2 ⟨d.val * 384 + k.val, by omega⟩ q) := by
  rw [StackMember.dotGeneral_plain_apply]
  exact (Fin.sum_mul_add_fin 8 384 fun l => A (ix2 i l) * B (ix2 l q)).symm

/-- With `a` cut by columns and `b` by rows among the devices, device `c` ends with its rows of the whole product. -/
theorem result_eq (A : FVec Ideal ⟨2, ![768, 3072]⟩ .f32) (B : FVec Ideal ⟨2, ![3072, 768]⟩ .f32)
    (ha : ∀ d : Dev nD, m ((d : Thread nD τ).loc main_arg0) = Layout.block ⟨2, ![768, 384]⟩ ⟨2, ![768, 3072]⟩ 1 8 d A)
    (hb : ∀ d : Dev nD, m ((d : Thread nD τ).loc main_arg1) = Layout.block ⟨2, ![384, 768]⟩ ⟨2, ![3072, 768]⟩ 0 8 d B) (c : Dev nD) :
    finalA m ρ c (2 : Fin 3)
      = Layout.block ⟨2, ![96, 768]⟩ ⟨2, ![768, 768]⟩ 0 8 c (Host.dotGeneral (DotDims.plain 768 3072 768) none A B) := by
  rw [final_o]
  funext j
  obtain ⟨r, q, rfl⟩ : ∃ (r : Fin 96) (q : Fin 768), j = ix2 r q := ⟨j 0, j 1, eq_ix2 j⟩
  have hc : c.val * 96 + r.val < 768 := by have := c.isLt; have : nD = 8 := rfl; omega
  rw [sumOf_apply, Layout.block_apply,
    show Layout.Tiles.idx (S := ⟨2, ![96, 768]⟩) (T := ⟨2, ![768, 768]⟩) (a := 0) (k := 8) (by decide) c (ix2 r q)
      = ix2 (⟨c.val * 96 + r.val, hc⟩ : Fin 768) q from eq_ix2 _, product_apply]
  refine Finset.sum_congr rfl fun d _ => Finset.sum_congr rfl fun k _ => ?_
  rw [rows_apply m d c r k hc, ha, hb]
  refine congrArg₂ (· * ·) (congrArg A ?_) (congrArg B ?_)
  · exact eq_ix2 _
  · exact eq_ix2 _

end Cert.KernelIdeal.Scatter

end
-- ==== Proof.lean ====
/-
  The proof of `Cert.Claim`: the three frames (Proof/Ideal/Frames.lean), the empty list of rewrites, and the equation of the
  kernel's results with the product of the whole matrices, from the value of one run (Proof/Ideal/Value.lean).
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ideal.Frames
public import proofs.«01_k».proof.Proof.Ideal.Value

@[expose] public section

noncomputable section

namespace Cert.Proof

open Idealize.ShloMosaic Idealize.ShloMosaic.TcCoe Idealize.SL.Sem

/-- Over the extended reals, each device's result is its 96 rows of the product that the reference computes from the whole
    matrices, and both programs leave their arguments as they were. -/
theorem algebraic : algebraic_KernelIdeal_ReferenceIdeal (hKernelIdeal := KernelIdeal.Gen.facts) (hReferenceIdeal := ReferenceIdeal.Gen.facts) := by
  intro m g m' g' _ hargs
  refine ⟨_, (θ_run (KernelIdeal.defs (F := Ideal)) _ _).mono (fun r (h : _ ∧ r.2.sem = fun _ => 0) c => ?_)
      (KernelIdeal.Scatter.run_main (F := Ideal) m g),
    (θ_run (ReferenceIdeal.defs (F := Ideal)) _ _).mono (fun r h => h 0) (ReferenceIdeal.Value.run (F := Ideal) m' g')⟩
  exact ⟨(h.1 c 2).trans (KernelIdeal.Scatter.result_eq m g _ _ (fun d => (hargs d).1) (fun d => (hargs d).2) c),
    (h.1 c 0).trans (KernelIdeal.Scatter.final_a m g c), (h.1 c 1).trans (KernelIdeal.Scatter.final_b m g c)⟩

/-- Every claim. -/
theorem claim : Cert.Claim :=
  ⟨Cert.Kernel.Gen.facts, Cert.KernelIdeal.Gen.facts, Cert.ReferenceIdeal.Gen.facts,
    Frames.kernel, Frames.kernelIdeal, Frames.referenceIdeal, trivial, algebraic⟩

end Cert.Proof

end
